-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_global_scale_nonzero [hPre_global_scale_nonzero : Cert.Pre_global_scale_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_global_scale_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_global_scale_nonzero [hPre_global_scale_nonzero : Cert.Pre_global_scale_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_global_scale_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_global_scale_nonzero [hKernelIdeal : Cert.KernelIdeal.Facts] [hPre_global_scale_nonzero : Cert.Pre_global_scale_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_global_scale_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_global_scale_nonzero [hReferenceIdeal : Cert.ReferenceIdeal.Facts] [hPre_global_scale_nonzero : Cert.Pre_global_scale_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_global_scale_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_global_scale_nonzero [hKernelIdeal : Cert.KernelIdeal.Facts] [hReferenceIdeal : Cert.ReferenceIdeal.Facts] [hPre_global_scale_nonzero : Cert.Pre_global_scale_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_global_scale_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_global_scale_nonzero : Cert.Pre_global_scale_nonzero.Facts),
    quiescent_Kernel (hKernel := hKernel)
    ∧ quiescent_KernelIdeal (hKernelIdeal := hKernelIdeal)
    ∧ quiescent_KernelIdeal_pre_global_scale_nonzero (hKernelIdeal := hKernelIdeal) (hPre_global_scale_nonzero := hPre_global_scale_nonzero)
    ∧ quiescent_ReferenceIdeal (hReferenceIdeal := hReferenceIdeal)
    ∧ quiescent_ReferenceIdeal_pre_global_scale_nonzero (hReferenceIdeal := hReferenceIdeal) (hPre_global_scale_nonzero := hPre_global_scale_nonzero)
    ∧ preserves_Kernel_KernelIdeal
    ∧ algebraic_KernelIdeal_ReferenceIdeal_pre_global_scale_nonzero (hKernelIdeal := hKernelIdeal) (hReferenceIdeal := hReferenceIdeal) (hPre_global_scale_nonzero := hPre_global_scale_nonzero)
-- ==== Pre_global_scale_nonzero.lean ====
abbrev S6x1024x1536 : Shape := ⟨3, ![6, 1024, 1536]⟩
abbrev S6144 : Shape := ⟨1, ![6144]⟩
abbrev S_ : Shape := ⟨0, ![]⟩
abbrev S6144x768 : Shape := ⟨2, ![6144, 768]⟩
abbrev S6144x96 : Shape := ⟨2, ![6144, 96]⟩
abbrev S6144x16 : Shape := ⟨2, ![6144, 16]⟩
abbrev S16x1536 : Shape := ⟨2, ![16, 1536]⟩

class Facts : Prop where

variable [Facts]

def fn {F : FTy → Type} [FloatOps F] (main_arg0 : FVec F S6x1024x1536 .bf16) (main_arg1 : FVec F S6144 .f32) (main_arg2 : FVec F S_ .f32) (main_arg3 : IVec S6144x768 8) (main_arg4 : FVec F S6144x96 .fp8e4m3) (main_arg5 : FVec F S_ .f32) (main_arg6 : FVec F S6144x16 .bf16) (main_arg7 : FVec F S16x1536 .bf16) : IVec S_ 1 :=
  let main_cst : FVec F S_ .f32 := constant S_ .f32 0x00000000#32
  let main_v0 : IVec S_ 1 := cmpf .une main_arg2 main_cst
  main_v0
-- ==== Kernel.lean ====
abbrev S6x1024x1536 : Shape := ⟨3, ![6, 1024, 1536]⟩
abbrev S6144 : Shape := ⟨1, ![6144]⟩
abbrev S_ : Shape := ⟨0, ![]⟩
abbrev S6144x768 : Shape := ⟨2, ![6144, 768]⟩
abbrev S6144x96 : Shape := ⟨2, ![6144, 96]⟩
abbrev S6144x16 : Shape := ⟨2, ![6144, 16]⟩
abbrev S16x1536 : Shape := ⟨2, ![16, 1536]⟩
abbrev S1 : Shape := ⟨1, ![1]⟩
abbrev S6144x1536 : Shape := ⟨2, ![6144, 1536]⟩
abbrev S1x6144 : Shape := ⟨2, ![1, 6144]⟩
abbrev S16x6144 : Shape := ⟨2, ![16, 6144]⟩
abbrev S6144x6144 : Shape := ⟨2, ![6144, 6144]⟩
abbrev S256x1536 : Shape := ⟨2, ![256, 1536]⟩
abbrev S256x6144 : Shape := ⟨2, ![256, 6144]⟩
abbrev S256x768 : Shape := ⟨2, ![256, 768]⟩
abbrev S256x96 : Shape := ⟨2, ![256, 96]⟩
abbrev S32x128 : Shape := ⟨2, ![32, 128]⟩
abbrev S1x128 : Shape := ⟨2, ![1, 128]⟩
abbrev S32x96 : Shape := ⟨2, ![32, 96]⟩
abbrev S32x128x1 : Shape := ⟨3, ![32, 128, 1]⟩
abbrev S8x128 : Shape := ⟨2, ![8, 128]⟩
abbrev S256x16 : Shape := ⟨2, ![256, 16]⟩
abbrev S512x1536 : Shape := ⟨2, ![512, 1536]⟩
abbrev S256x512 : Shape := ⟨2, ![256, 512]⟩
abbrev S16x512 : Shape := ⟨2, ![16, 512]⟩
abbrev S1x512 : Shape := ⟨2, ![1, 512]⟩

abbrev nBuf : Space → Nat
  | .hbm => 16
  | .vmem => 16
  | .smem => 2
  | _ => 0

abbrev bufTy : (tb : Table) → Fin (tcTables nBuf tb) → BufTy
  | .hbm, ⟨0, _⟩ => ⟨S6x1024x1536, .bf16⟩
  | .hbm, ⟨1, _⟩ => ⟨S6144, .f32⟩
  | .hbm, ⟨2, _⟩ => ⟨S_, .f32⟩
  | .hbm, ⟨3, _⟩ => ⟨S6144x768, .i8⟩
  | .hbm, ⟨4, _⟩ => ⟨S6144x96, .fp8e4m3⟩
  | .hbm, ⟨5, _⟩ => ⟨S_, .f32⟩
  | .hbm, ⟨6, _⟩ => ⟨S6144x16, .bf16⟩
  | .hbm, ⟨7, _⟩ => ⟨S16x1536, .bf16⟩
  | .hbm, ⟨8, _⟩ => ⟨S1, .f32⟩
  | .hbm, ⟨9, _⟩ => ⟨S1, .f32⟩
  | .hbm, ⟨10, _⟩ => ⟨S6144x1536, .bf16⟩
  | .hbm, ⟨11, _⟩ => ⟨S1x6144, .f32⟩
  | .hbm, ⟨12, _⟩ => ⟨S16x6144, .bf16⟩
  | .hbm, ⟨13, _⟩ => ⟨S6144x6144, .bf16⟩
  | .hbm, ⟨14, _⟩ => ⟨S6144x768, .i8⟩
  | .hbm, ⟨15, _⟩ => ⟨S6144x96, .fp8e4m3⟩
  | .local _ .vmem, ⟨0, _⟩ => ⟨S256x1536, .bf16⟩
  | .local _ .vmem, ⟨1, _⟩ => ⟨S256x1536, .bf16⟩
  | .local _ .vmem, ⟨2, _⟩ => ⟨S1x6144, .f32⟩
  | .local _ .vmem, ⟨3, _⟩ => ⟨S6144x768, .i8⟩
  | .local _ .vmem, ⟨4, _⟩ => ⟨S6144x96, .fp8e4m3⟩
  | .local _ .vmem, ⟨5, _⟩ => ⟨S16x6144, .bf16⟩
  | .local _ .vmem, ⟨6, _⟩ => ⟨S16x1536, .bf16⟩
  | .local _ .vmem, ⟨7, _⟩ => ⟨S256x6144, .bf16⟩
  | .local _ .vmem, ⟨8, _⟩ => ⟨S256x6144, .bf16⟩
  | .local _ .vmem, ⟨9, _⟩ => ⟨S256x768, .i8⟩
  | .local _ .vmem, ⟨10, _⟩ => ⟨S256x768, .i8⟩
  | .local _ .vmem, ⟨11, _⟩ => ⟨S256x96, .fp8e4m3⟩
  | .local _ .vmem, ⟨12, _⟩ => ⟨S256x96, .fp8e4m3⟩
  | .local _ .vmem, ⟨13, _⟩ => ⟨S6144x1536, .bf16⟩
  | .local _ .vmem, ⟨14, _⟩ => ⟨S256x1536, .bf16⟩
  | .local _ .vmem, ⟨15, _⟩ => ⟨S32x128, .fp8e4m3⟩
  | .local _ .smem, ⟨0, _⟩ => ⟨S1, .f32⟩
  | .local _ .smem, ⟨1, _⟩ => ⟨S1, .f32⟩
  | _, _ => ⟨S6x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_16 : BitVec 32 := 0#32
  let c192_i32 : BitVec 32 := 192#32
  let v20 : BitVec 32 := Scalar.addi c0_i32_16 c192_i32
  let c1_i32_17 : BitVec 32 := 1#32
  ⟨c0_i32_16, v20, c1_i32_17⟩
def k0_off1 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v24 : Index := Scalar.indexCast v23
  let c0_21 : Index := 0#32
  ![v24.toNat, 0]
def k0_off2 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v48 : Index := Scalar.indexCast v23
  let c0_29 : Index := 0#32
  ![v48.toNat, 0]
def k0_off3 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v73 : Index := Scalar.indexCast v23
  let c0_33 : Index := 0#32
  ![v73.toNat, 0]
def k0_off4 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v77 : Index := Scalar.indexCast v23
  let c768 : Index := 768#32
  ![v77.toNat, 768]
def k0_off5 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v95 : Index := Scalar.indexCast v23
  let c128 : Index := 128#32
  ![v95.toNat, 128]
def k0_off6 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v120 : Index := Scalar.indexCast v23
  let c128_44 : Index := 128#32
  ![v120.toNat, 128]
def k0_off7 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v124 : Index := Scalar.indexCast v23
  let c896 : Index := 896#32
  ![v124.toNat, 896]
def k0_off8 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v142 : Index := Scalar.indexCast v23
  let c256 : Index := 256#32
  ![v142.toNat, 256]
def k0_off9 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v167 : Index := Scalar.indexCast v23
  let c256_56 : Index := 256#32
  ![v167.toNat, 256]
def k0_off10 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v171 : Index := Scalar.indexCast v23
  let c1024 : Index := 1024#32
  ![v171.toNat, 1024]
def k0_off11 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v189 : Index := Scalar.indexCast v23
  let c384 : Index := 384#32
  ![v189.toNat, 384]
def k0_off12 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v214 : Index := Scalar.indexCast v23
  let c384_67 : Index := 384#32
  ![v214.toNat, 384]
def k0_off13 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v218 : Index := Scalar.indexCast v23
  let c1152 : Index := 1152#32
  ![v218.toNat, 1152]
def k0_off14 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v236 : Index := Scalar.indexCast v23
  let c512 : Index := 512#32
  ![v236.toNat, 512]
def k0_off15 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v261 : Index := Scalar.indexCast v23
  let c512_78 : Index := 512#32
  ![v261.toNat, 512]
def k0_off16 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v265 : Index := Scalar.indexCast v23
  let c1280 : Index := 1280#32
  ![v265.toNat, 1280]
def k0_off17 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v283 : Index := Scalar.indexCast v23
  let c640 : Index := 640#32
  ![v283.toNat, 640]
def k0_off18 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v308 : Index := Scalar.indexCast v23
  let c640_89 : Index := 640#32
  ![v308.toNat, 640]
def k0_off19 (k0_t1 : Fin k0_t1_loop.trips) : Fin 2 → Nat :=
  let c0_i32_20 : BitVec 32 := 0#32
  let c0_i32_16 : BitVec 32 := 0#32
  let c1_i32_17 : BitVec 32 := 1#32
  let arg15 : BitVec 32 := Scf.iv c0_i32_16 c1_i32_17 k0_t1
  let c1_i32_19 : BitVec 32 := 1#32
  let v21 : BitVec 32 := Scalar.muli arg15 c1_i32_19
  let v22 : BitVec 32 := Scalar.addi c0_i32_20 v21
  let c32_i32 : BitVec 32 := 32#32
  let v23 : BitVec 32 := Scalar.muli v22 c32_i32
  let v312 : Index := Scalar.indexCast v23
  let c1408 : Index := 1408#32
  ![v312.toNat, 1408]
@[reducible] def k0_t2_loop : Scf.Loop 32 :=
  let c0_i32_2 : BitVec 32 := 0#32
  let c8_i32 : BitVec 32 := 8#32
  let v7 : BitVec 32 := Scalar.addi c0_i32_2 c8_i32
  let c1_i32 : BitVec 32 := 1#32
  ⟨c0_i32_2, v7, c1_i32⟩
def k0_off20 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32 : BitVec 32 := 32#32
  let v18 : BitVec 32 := Scalar.muli v17 c32_i32
  let v32 : Index := Scalar.indexCast v18
  let c0_17 : Index := 0#32
  ![v32.toNat, 0]
def k0_off21 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32 : BitVec 32 := 32#32
  let v18 : BitVec 32 := Scalar.muli v17 c32_i32
  let v35 : Index := Scalar.indexCast v18
  let c128 : Index := 128#32
  ![v35.toNat, 128]
def k0_off22 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v225 : Index := Scalar.indexCast v19
  let c0_75 : Index := 0#32
  ![v225.toNat, 0]
def k0_off23 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v240 : Index := Scalar.indexCast v19
  let c768 : Index := 768#32
  ![v240.toNat, 768]
def k0_off24 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32 : BitVec 32 := 32#32
  let v18 : BitVec 32 := Scalar.muli v17 c32_i32
  let v257 : Index := Scalar.indexCast v18
  let c256 : Index := 256#32
  ![v257.toNat, 256]
def k0_off25 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32 : BitVec 32 := 32#32
  let v18 : BitVec 32 := Scalar.muli v17 c32_i32
  let v260 : Index := Scalar.indexCast v18
  let c384 : Index := 384#32
  ![v260.toNat, 384]
def k0_off26 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v450 : Index := Scalar.indexCast v19
  let c128_143 : Index := 128#32
  ![v450.toNat, 128]
def k0_off27 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v465 : Index := Scalar.indexCast v19
  let c896 : Index := 896#32
  ![v465.toNat, 896]
def k0_off28 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32 : BitVec 32 := 32#32
  let v18 : BitVec 32 := Scalar.muli v17 c32_i32
  let v487 : Index := Scalar.indexCast v18
  let c512 : Index := 512#32
  ![v487.toNat, 512]
def k0_off29 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32 : BitVec 32 := 32#32
  let v18 : BitVec 32 := Scalar.muli v17 c32_i32
  let v490 : Index := Scalar.indexCast v18
  let c640 : Index := 640#32
  ![v490.toNat, 640]
def k0_off30 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v680 : Index := Scalar.indexCast v19
  let c256_215 : Index := 256#32
  ![v680.toNat, 256]
def k0_off31 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v695 : Index := Scalar.indexCast v19
  let c1024 : Index := 1024#32
  ![v695.toNat, 1024]
def k0_off32 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v910 : Index := Scalar.indexCast v19
  let c384_289 : Index := 384#32
  ![v910.toNat, 384]
def k0_off33 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v925 : Index := Scalar.indexCast v19
  let c1152 : Index := 1152#32
  ![v925.toNat, 1152]
def k0_off34 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v1140 : Index := Scalar.indexCast v19
  let c512_363 : Index := 512#32
  ![v1140.toNat, 512]
def k0_off35 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v1155 : Index := Scalar.indexCast v19
  let c1280 : Index := 1280#32
  ![v1155.toNat, 1280]
def k0_off36 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32 : BitVec 32 := 32#32
  let v18 : BitVec 32 := Scalar.muli v17 c32_i32
  let v1180 : Index := Scalar.indexCast v18
  let c1408 : Index := 1408#32
  ![v1180.toNat, 1408]
def k0_off37 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v1370 : Index := Scalar.indexCast v19
  let c640_436 : Index := 640#32
  ![v1370.toNat, 640]
def k0_off38 (k0_t2 : Fin k0_t2_loop.trips) : Fin 2 → Nat :=
  let c0_i32_14 : BitVec 32 := 0#32
  let c0_i32_2 : BitVec 32 := 0#32
  let c1_i32 : BitVec 32 := 1#32
  let arg15 : BitVec 32 := Scf.iv c0_i32_2 c1_i32 k0_t2
  let c1_i32_13 : BitVec 32 := 1#32
  let v16 : BitVec 32 := Scalar.muli arg15 c1_i32_13
  let v17 : BitVec 32 := Scalar.addi c0_i32_14 v16
  let c32_i32_15 : BitVec 32 := 32#32
  let v19 : BitVec 32 := Scalar.muli v17 c32_i32_15
  let v1409 : Index := Scalar.indexCast v19
  let c0_445 : Index := 0#32
  ![v1409.toNat, 0]
@[reducible] def k0_t3_loop : Scf.Loop 32 :=
  let c0_i32_10 : BitVec 32 := 0#32
  let c12_i32 : BitVec 32 := 12#32
  let v15 : BitVec 32 := Scalar.addi c0_i32_10 c12_i32
  let c1_i32_11 : BitVec 32 := 1#32
  ⟨c0_i32_10, v15, c1_i32_11⟩
def k0_mult1 (k0_t3 : Fin k0_t3_loop.trips) : BitVec 32 :=
  let c0_i32_14 : BitVec 32 := 0#32
  let c0_i32_10 : BitVec 32 := 0#32
  let c1_i32_11 : BitVec 32 := 1#32
  let arg15 : BitVec 32 := Scf.iv c0_i32_10 c1_i32_11 k0_t3
  let c1_i32_13 : BitVec 32 := 1#32
  let v16 : BitVec 32 := Scalar.muli arg15 c1_i32_13
  let v17 : BitVec 32 := Scalar.addi c0_i32_14 v16
  let c512_i32 : BitVec 32 := 512#32
  let v18 : BitVec 32 := Scalar.muli v17 c512_i32
  v18
def k0_off39 (k0_t3 : Fin k0_t3_loop.trips) : Fin 2 → Nat :=
  let c0_i32_14 : BitVec 32 := 0#32
  let c0_i32_10 : BitVec 32 := 0#32
  let c1_i32_11 : BitVec 32 := 1#32
  let arg15 : BitVec 32 := Scf.iv c0_i32_10 c1_i32_11 k0_t3
  let c1_i32_13 : BitVec 32 := 1#32
  let v16 : BitVec 32 := Scalar.muli arg15 c1_i32_13
  let v17 : BitVec 32 := Scalar.addi c0_i32_14 v16
  let c512_i32 : BitVec 32 := 512#32
  let v18 : BitVec 32 := Scalar.muli v17 c512_i32
  let v19 : BitVec 32 := v18
  let v21 : Index := Scalar.indexCast v19
  let c0_17 : Index := 0#32
  ![v21.toNat, 0]
def k0_off40 (k0_t3 : Fin k0_t3_loop.trips) : Fin 2 → Nat :=
  let c0_19 : Index := 0#32
  let c0_i32_14 : BitVec 32 := 0#32
  let c0_i32_10 : BitVec 32 := 0#32
  let c1_i32_11 : BitVec 32 := 1#32
  let arg15 : BitVec 32 := Scf.iv c0_i32_10 c1_i32_11 k0_t3
  let c1_i32_13 : BitVec 32 := 1#32
  let v16 : BitVec 32 := Scalar.muli arg15 c1_i32_13
  let v17 : BitVec 32 := Scalar.addi c0_i32_14 v16
  let c512_i32 : BitVec 32 := 512#32
  let v18 : BitVec 32 := Scalar.muli v17 c512_i32
  let v19 : BitVec 32 := v18
  let v24 : Index := Scalar.indexCast v19
  ![0, v24.toNat]
def k0_off41 (k0_t3 : Fin k0_t3_loop.trips) : Fin 2 → Nat :=
  let c0_21 : Index := 0#32
  let c0_i32_14 : BitVec 32 := 0#32
  let c0_i32_10 : BitVec 32 := 0#32
  let c1_i32_11 : BitVec 32 := 1#32
  let arg15 : BitVec 32 := Scf.iv c0_i32_10 c1_i32_11 k0_t3
  let c1_i32_13 : BitVec 32 := 1#32
  let v16 : BitVec 32 := Scalar.muli arg15 c1_i32_13
  let v17 : BitVec 32 := Scalar.addi c0_i32_14 v16
  let c512_i32 : BitVec 32 := 512#32
  let v18 : BitVec 32 := Scalar.muli v17 c512_i32
  let v19 : BitVec 32 := v18
  let v31 : Index := Scalar.indexCast v19
  ![0, v31.toNat]
def k0_off42 (k0_t3 : Fin k0_t3_loop.trips) : Fin 2 → Nat :=
  let c0_22 : Index := 0#32
  let c0_i32_14 : BitVec 32 := 0#32
  let c0_i32_10 : BitVec 32 := 0#32
  let c1_i32_11 : BitVec 32 := 1#32
  let arg15 : BitVec 32 := Scf.iv c0_i32_10 c1_i32_11 k0_t3
  let c1_i32_13 : BitVec 32 := 1#32
  let v16 : BitVec 32 := Scalar.muli arg15 c1_i32_13
  let v17 : BitVec 32 := Scalar.addi c0_i32_14 v16
  let c512_i32 : BitVec 32 := 512#32
  let v18 : BitVec 32 := Scalar.muli v17 c512_i32
  let v19 : BitVec 32 := v18
  let v37 : Index := Scalar.indexCast v19
  ![0, v37.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x768 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6144x96 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x96 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S6x1024x1536 : Shape := ⟨3, ![6, 1024, 1536]⟩
abbrev S6144 : Shape := ⟨1, ![6144]⟩
abbrev S_ : Shape := ⟨0, ![]⟩
abbrev S6144x768 : Shape := ⟨2, ![6144, 768]⟩
abbrev S6144x96 : Shape := ⟨2, ![6144, 96]⟩
abbrev S6144x16 : Shape := ⟨2, ![6144, 16]⟩
abbrev S16x1536 : Shape := ⟨2, ![16, 1536]⟩
abbrev S6144x1536 : Shape := ⟨2, ![6144, 1536]⟩
abbrev S1x6144 : Shape := ⟨2, ![1, 6144]⟩
abbrev S1 : Shape := ⟨1, ![1]⟩
abbrev S6144x6144 : Shape := ⟨2, ![6144, 6144]⟩
abbrev S6144x96x16 : Shape := ⟨3, ![6144, 96, 16]⟩
abbrev S6144x96x1 : Shape := ⟨3, ![6144, 96, 1]⟩
abbrev S6144x768x2 : Shape := ⟨3, ![6144, 768, 2]⟩
abbrev S6144x768x1 : Shape := ⟨3, ![6144, 768, 1]⟩
abbrev S6144x96x8 : Shape := ⟨3, ![6144, 96, 8]⟩

abbrev nBuf : Space → Nat
  | .hbm => 15
  | .vmem => 9
  | .smem => 2
  | _ => 0

abbrev bufTy : (tb : Table) → Fin (tcTables nBuf tb) → BufTy
  | .hbm, ⟨0, _⟩ => ⟨S6x1024x1536, .bf16⟩
  | .hbm, ⟨1, _⟩ => ⟨S6144, .f32⟩
  | .hbm, ⟨2, _⟩ => ⟨S_, .f32⟩
  | .hbm, ⟨3, _⟩ => ⟨S6144x768, .i8⟩
  | .hbm, ⟨4, _⟩ => ⟨S6144x96, .fp8e4m3⟩
  | .hbm, ⟨5, _⟩ => ⟨S_, .f32⟩
  | .hbm, ⟨6, _⟩ => ⟨S6144x16, .bf16⟩
  | .hbm, ⟨7, _⟩ => ⟨S16x1536, .bf16⟩
  | .hbm, ⟨8, _⟩ => ⟨S6144x1536, .bf16⟩
  | .hbm, ⟨9, _⟩ => ⟨S1x6144, .f32⟩
  | .hbm, ⟨10, _⟩ => ⟨S1, .f32⟩
  | .hbm, ⟨11, _⟩ => ⟨S1, .f32⟩
  | .hbm, ⟨12, _⟩ => ⟨S6144x6144, .bf16⟩
  | .hbm, ⟨13, _⟩ => ⟨S6144x768, .i8⟩
  | .hbm, ⟨14, _⟩ => ⟨S6144x96, .fp8e4m3⟩
  | .local _ .vmem, ⟨0, _⟩ => ⟨S6144x1536, .bf16⟩
  | .local _ .vmem, ⟨1, _⟩ => ⟨S1x6144, .f32⟩
  | .local _ .vmem, ⟨2, _⟩ => ⟨S6144x768, .i8⟩
  | .local _ .vmem, ⟨3, _⟩ => ⟨S6144x96, .fp8e4m3⟩
  | .local _ .vmem, ⟨4, _⟩ => ⟨S6144x16, .bf16⟩
  | .local _ .vmem, ⟨5, _⟩ => ⟨S16x1536, .bf16⟩
  | .local _ .vmem, ⟨6, _⟩ => ⟨S6144x6144, .bf16⟩
  | .local _ .vmem, ⟨7, _⟩ => ⟨S6144x768, .i8⟩
  | .local _ .vmem, ⟨8, _⟩ => ⟨S6144x96, .fp8e4m3⟩
  | .local _ .smem, ⟨0, _⟩ => ⟨S1, .f32⟩
  | .local _ .smem, ⟨1, _⟩ => ⟨S1, .f32⟩
  | _, _ => ⟨S6x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6144x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x768 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x768 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x96 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Words.lean ====
module

public import Idealize.ShloMosaic.Lib.BitcastFour
public import Idealize.ShloMosaic.Lib.Pipeline.Value

@[expose] public section

/-! # Words of four bytes

A 32-bit word of a bitcast block holds the bytes of four consecutive rows of one column. The kernel edits such words with
shifts and masks that never move a bit from one byte into another, so each edit is an edit of the single byte. -/

namespace Nvfp4

open Idealize.ShloMosaic Idealize.ShloMosaic.ValueIdx

/-- The bytes of 32 rows. -/
abbrev SB : Shape := ⟨2, ![32, 128]⟩
/-- The words of the same 32 rows, four rows to a word. -/
abbrev SW : Shape := ⟨2, ![8, 128]⟩

/-- Bit `j` of the byte that row `r` holds of the words `w`. -/
theorem byte_getLsbD (w : SW.Idx → BitVec 32) (h : SW.Bitcasts 32 SB 8) (r : Fin 32) (l : Fin 128) (j : ℕ) (hj : j < 8) :
    (bitcast SB 8 w h (ix2 r l)).getLsbD j
      = (w (ix2 ⟨r.val / 4, by omega⟩ l)).getLsbD (8 * (r.val % 4) + j) := by
  rw [bitcast_getLsbD w h (ix2 r l) j hj (by decide)]
  have e : (SB.row (ix2 r l) * 8 + j) / 32 = r.val / 4 := by
    show (r.val * 8 + j) / 32 = r.val / 4
    omega
  have e' : (SB.row (ix2 r l) * 8 + j) % 32 = 8 * (r.val % 4) + j := by
    show (r.val * 8 + j) % 32 = _
    omega
  rw [e']
  congr 2
  funext c
  match c with
  | ⟨0, _⟩ => exact Fin.ext ((h.srcIdx_row _ _ _ ⟨0, Nat.zero_lt_two⟩ rfl).trans e)
  | ⟨1, _⟩ => exact Fin.ext (h.srcIdx_other _ _ _ ⟨1, Nat.one_lt_two⟩ (by show ¬ 1 + 2 = 2; omega))

/-- Byte `p` of the word `w` is `b`. -/
def HasByte (w : BitVec 32) (p : ℕ) (b : BitVec 8) : Prop := ∀ j, j < 8 → w.getLsbD (8 * p + j) = b.getLsbD j

/-- The word of a bitcast block holds, at the place of row `r`, that row's byte. -/
theorem hasByte_word (x : SB.Idx → BitVec 8) (h : SB.Bitcasts 8 SW 32) (r : Fin 32) (l : Fin 128) :
    HasByte (bitcast SW 32 x h (ix2 ⟨r.val / 4, by omega⟩ l)) (r.val % 4) (x (ix2 r l)) := by
  intro j hj
  rw [bitcast_8_32_getLsbD_ix2 x h ⟨r.val / 4, by omega⟩ l _ (by omega) r
    (by show r.val = 4 * (r.val / 4) + (8 * (r.val % 4) + j) / 8; omega)]
  congr 1
  omega

/-- A block of words whose word at row `r`'s place holds the byte `b` there reads `b` at row `r`. -/
theorem byte_eq_of_hasByte (w : SW.Idx → BitVec 32) (h : SW.Bitcasts 32 SB 8) (r : Fin 32) (l : Fin 128) (b : BitVec 8)
    (hb : HasByte (w (ix2 ⟨r.val / 4, by omega⟩ l)) (r.val % 4) b) : bitcast SB 8 w h (ix2 r l) = b := by
  apply BitVec.eq_of_getLsbD_eq
  intro j hj
  rw [byte_getLsbD w h r l j hj]
  exact hb j hj

/-- The byte a weight's low code becomes: its magnitude at bits 2 to 4 and its sign at bit 7. -/
def loByte (b : BitVec 8) : BitVec 8 := ((b <<< 2) &&& 0x1C#8) ||| ((b <<< 4) &&& 0x80#8)

/-- The byte a weight's high code becomes. -/
def hiByte (b : BitVec 8) : BitVec 8 := ((b >>> 2) &&& 0x1C#8) ||| (b &&& 0x80#8)

/-- The byte two codes make: the even column's in the low half, the odd column's in the high half. -/
def packByte (e o : BitVec 8) : BitVec 8 :=
  (((e >>> 4) &&& 0x08#8) ||| ((e >>> 2) &&& 0x07#8)) ||| (o &&& 0x80#8) ||| ((o <<< 2) &&& 0x70#8)

theorem hasByte_lo (w : BitVec 32) (p : ℕ) (hp : p < 4) (b : BitVec 8) (hb : HasByte w p b) :
    HasByte (((w <<< 2) &&& 471604252#32) ||| ((w <<< 4) &&& 2155905152#32)) p (loByte b) := by
  intro j hj
  have h0 := hb 0 (by decide); have h1 := hb 1 (by decide); have h2 := hb 2 (by decide); have h3 := hb 3 (by decide)
  have h4 := hb 4 (by decide); have h5 := hb 5 (by decide); have h6 := hb 6 (by decide); have h7 := hb 7 (by decide)
  interval_cases p <;> interval_cases j <;>
    simp_all [loByte, BitVec.getLsbD_or, BitVec.getLsbD_and, BitVec.getLsbD_shiftLeft]

theorem hasByte_hi (w : BitVec 32) (p : ℕ) (hp : p < 4) (b : BitVec 8) (hb : HasByte w p b) :
    HasByte (((w >>> 2) &&& 471604252#32) ||| (w &&& 2155905152#32)) p (hiByte b) := by
  intro j hj
  have h0 := hb 0 (by decide); have h1 := hb 1 (by decide); have h2 := hb 2 (by decide); have h3 := hb 3 (by decide)
  have h4 := hb 4 (by decide); have h5 := hb 5 (by decide); have h6 := hb 6 (by decide); have h7 := hb 7 (by decide)
  interval_cases p <;> interval_cases j <;>
    simp_all [hiByte, BitVec.getLsbD_or, BitVec.getLsbD_and, BitVec.getLsbD_ushiftRight]

theorem hasByte_pack (w v : BitVec 32) (p : ℕ) (hp : p < 4) (e o : BitVec 8) (he : HasByte w p e) (ho : HasByte v p o) :
    HasByte (((((w >>> 4) &&& 134744072#32) ||| ((w >>> 2) &&& 117901063#32)) ||| (v &&& 2155905152#32))
      ||| ((v <<< 2) &&& 1886417008#32)) p (packByte e o) := by
  intro j hj
  have h0 := he 0 (by decide); have h1 := he 1 (by decide); have h2 := he 2 (by decide); have h3 := he 3 (by decide)
  have h4 := he 4 (by decide); have h5 := he 5 (by decide); have h6 := he 6 (by decide); have h7 := he 7 (by decide)
  have k0 := ho 0 (by decide); have k1 := ho 1 (by decide); have k2 := ho 2 (by decide); have k3 := ho 3 (by decide)
  have k4 := ho 4 (by decide); have k5 := ho 5 (by decide); have k6 := ho 6 (by decide); have k7 := ho 7 (by decide)
  interval_cases p <;> interval_cases j <;>
    simp_all [packByte, BitVec.getLsbD_or, BitVec.getLsbD_and, BitVec.getLsbD_shiftLeft, BitVec.getLsbD_ushiftRight]

end Nvfp4
-- ==== Proof.Codes.lean ====
module

public import proofs.«01_k».proof.Proof.Words
public import Idealize.ShloMosaic.PureOps.Ideal.Laws
public import Idealize.ShloMosaic.Lib.IdealHost
public import Mathlib.Tactic.NormNum
public import Mathlib.Tactic.Linarith

@[expose] public section

/-! # The sixteen codes

A code is a sign and one of eight magnitudes. The reference writes it in four bits, magnitude below sign; the kernel writes
the byte of an eight-bit float whose value is the code's, divided by 64. -/

namespace Nvfp4

open Idealize.ShloMosaic

/-- The eight magnitudes. -/
noncomputable def mag : Fin 8 → ℝ := ![0, 1 / 2, 1, 3 / 2, 2, 3, 4, 6]

/-- The signed value of a code. -/
noncomputable def val (k : Fin 8) (s : Bool) : ℝ := if s then -mag k else mag k

/-- The kernel's byte of a code. -/
def byteOf (k : Fin 8) (s : Bool) : BitVec 8 := (BitVec.ofNat 8 k.val <<< 2) ||| (if s then 0x80#8 else 0#8)

/-- The reference's four bits of a code. -/
def nibOf (k : Fin 8) (s : Bool) : BitVec 8 := BitVec.ofNat 8 k.val ||| (if s then 8#8 else 0#8)

/-- The kernel's byte denotes the code's value over 64. -/
theorem e4m3_byteOf (k : Fin 8) (s : Bool) : Ideal.e4m3fn (byteOf k s) = ((val k s / 64 : ℝ) : EReal) := by
  fin_cases k <;> cases s <;>
    simp [Ideal.e4m3fn, byteOf, val, mag, -EReal.coe_mul, -EReal.coe_neg] <;> norm_num

/-- The packed byte of two codes is the reference's: one code in each half. -/
theorem packByte_byteOf : ∀ (k k' : Fin 8) (s s' : Bool),
    packByte (byteOf k s) (byteOf k' s') = nibOf k s ||| (nibOf k' s' <<< 4) := by decide +kernel

/-- The magnitude of four bits. -/
def nibK (n : BitVec 32) : Fin 8 := ⟨n.toNat % 8, Nat.mod_lt _ (by decide)⟩
/-- The sign of four bits. -/
def nibS (n : BitVec 32) : Bool := n.getLsbD 3

theorem loByte_eq : ∀ b : BitVec 8, loByte b = byteOf (nibK (b.setWidth 32 &&& 15#32)) (nibS (b.setWidth 32 &&& 15#32)) := by
  decide +kernel

theorem hiByte_eq : ∀ b : BitVec 8,
    hiByte b = byteOf (nibK ((b.setWidth 32).sshiftRight 4)) (nibS ((b.setWidth 32).sshiftRight 4)) := by
  decide +kernel

/-- The byte the two codes of a packed byte are. -/
theorem nib_lo : ∀ (k k' : Fin 8) (s s' : Bool),
    nibK ((nibOf k s ||| (nibOf k' s' <<< 4)).setWidth 32 &&& 15#32) = k
      ∧ nibS ((nibOf k s ||| (nibOf k' s' <<< 4)).setWidth 32 &&& 15#32) = s := by decide +kernel

theorem nib_hi : ∀ (k k' : Fin 8) (s s' : Bool),
    nibK (((nibOf k s ||| (nibOf k' s' <<< 4)).setWidth 32).sshiftRight 4) = k'
      ∧ nibS (((nibOf k s ||| (nibOf k' s' <<< 4)).setWidth 32).sshiftRight 4) = s' := by decide +kernel

/-! ## Rounding to a magnitude -/

open Ideal in
theorem rhe_nearest (x : ℝ) (n : ℤ) (hn : Ideal.roundHalfEven x = n) : |x - n| ≤ 1 / 2 := by
  unfold Ideal.roundHalfEven at hn
  have h1 := Int.floor_le x
  have h2 := Int.lt_floor_add_one x
  dsimp only at hn
  rw [abs_le]
  split_ifs at hn <;> subst hn <;> push_cast <;> constructor <;> linarith

/-- Rounding half to even is odd. -/
theorem rhe_neg (x : ℝ) : Ideal.roundHalfEven (-x) = -Ideal.roundHalfEven x := by
  unfold Ideal.roundHalfEven
  dsimp only
  have h1 := Int.floor_le x
  have h2 := Int.lt_floor_add_one x
  by_cases hx : (⌊x⌋ : ℝ) = x
  · have e : ⌊-x⌋ = -⌊x⌋ := by
      rw [Int.floor_eq_iff]; push_cast; constructor <;> linarith
    rw [e]; push_cast; rw [hx]; simp
  · have hlt : (⌊x⌋ : ℝ) < x := lt_of_le_of_ne h1 hx
    have e : ⌊-x⌋ = -⌊x⌋ - 1 := by
      rw [Int.floor_eq_iff]; push_cast; constructor <;> linarith
    rw [e]; push_cast
    rcases lt_trichotomy (x - ⌊x⌋) (1 / 2) with h | h | h
    · rw [if_neg (by linarith), if_pos (by linarith), if_pos h]; ring
    · have c1 : ¬ (-x - (-(⌊x⌋ : ℝ) - 1) < 1 / 2) := by linarith
      have c2 : ¬ (1 / 2 < -x - (-(⌊x⌋ : ℝ) - 1)) := by linarith
      have c3 : ¬ (x - (⌊x⌋ : ℝ) < 1 / 2) := by linarith
      have c4 : ¬ (1 / 2 < x - (⌊x⌋ : ℝ)) := by linarith
      rw [if_neg c1, if_neg c2, if_neg c3, if_neg c4]
      by_cases hev : Even ⌊x⌋
      · rw [if_pos hev, if_neg]
        · ring
        · intro h'
          have := hev.neg.sub h'
          simp at this
      · rw [if_neg hev, if_pos]
        · ring
        · rw [Int.not_even_iff_odd] at hev
          exact hev.neg.sub_odd odd_one
    · rw [if_pos (by linarith), if_neg (by linarith), if_pos h]; ring

/-- The magnitude a real in [0, 6] rounds to, as the reference computes it. -/
noncomputable def qOf (m : ℝ) : ℝ :=
  if m < 2 then (Ideal.roundHalfEven (2 * m) : ℝ) / 2
  else if m < 4 then (Ideal.roundHalfEven m : ℝ) else 2 * (Ideal.roundHalfEven (m / 2) : ℝ)

/-- The spacing of the magnitudes near `m`. -/
noncomputable def stepOf (m : ℝ) : ℝ := if m < 2 then 1 / 2 else if m < 4 then 1 else 2

theorem stepOf_pos (m : ℝ) : 0 < stepOf m := by unfold stepOf; split_ifs <;> norm_num

theorem qOf_eq_step (m : ℝ) : qOf m = (Ideal.roundHalfEven (m / stepOf m) : ℝ) * stepOf m := by
  unfold qOf stepOf
  split_ifs
  · rw [show m / (1 / 2) = 2 * m by ring]; ring
  · simp
  · ring

theorem qOf_mem (m : ℝ) (h0 : 0 ≤ m) (h6 : m ≤ 6) : ∃ k : Fin 8, qOf m = mag k := by
  unfold qOf
  split_ifs with h h'
  · obtain ⟨n, hn⟩ : ∃ n, Ideal.roundHalfEven (2 * m) = n := ⟨_, rfl⟩
    have := abs_le.mp (rhe_nearest _ _ hn)
    rw [hn]
    have a : (-1 : ℝ) < n := by linarith
    have b : (n : ℝ) < 5 := by linarith
    have a' : -1 < n := by exact_mod_cast a
    have b' : n < 5 := by exact_mod_cast b
    interval_cases n
    · exact ⟨0, by simp [mag] <;> norm_num⟩
    · exact ⟨1, by simp [mag] <;> norm_num⟩
    · exact ⟨2, by simp [mag] <;> norm_num⟩
    · exact ⟨3, by simp [mag] <;> norm_num⟩
    · exact ⟨4, by simp [mag] <;> norm_num⟩
  · obtain ⟨n, hn⟩ : ∃ n, Ideal.roundHalfEven m = n := ⟨_, rfl⟩
    have := abs_le.mp (rhe_nearest _ _ hn)
    rw [hn]
    have a : (1 : ℝ) < n := by linarith
    have b : (n : ℝ) < 5 := by linarith
    have a' : 1 < n := by exact_mod_cast a
    have b' : n < 5 := by exact_mod_cast b
    interval_cases n
    · exact ⟨4, by simp [mag] <;> norm_num⟩
    · exact ⟨5, by simp [mag] <;> norm_num⟩
    · exact ⟨6, by simp [mag] <;> norm_num⟩
  · obtain ⟨n, hn⟩ : ∃ n, Ideal.roundHalfEven (m / 2) = n := ⟨_, rfl⟩
    have := abs_le.mp (rhe_nearest _ _ hn)
    rw [hn]
    have a : (1 : ℝ) < n := by linarith
    have b : (n : ℝ) < 4 := by linarith
    have a' : 1 < n := by exact_mod_cast a
    have b' : n < 4 := by exact_mod_cast b
    interval_cases n
    · exact ⟨6, by simp [mag] <;> norm_num⟩
    · exact ⟨7, by simp [mag] <;> norm_num⟩

/-- The code's number, computed from the magnitude. -/
noncomputable def idxOf (q : ℝ) : ℝ := if q < 2 then 2 * q else if q < 4 then q + 2 else q / 2 + 4

theorem idxOf_mag (k : Fin 8) : idxOf (mag k) = (k.val : ℝ) := by
  fin_cases k <;> norm_num [idxOf, mag]

theorem mag_nonneg (k : Fin 8) : 0 ≤ mag k := by fin_cases k <;> norm_num [mag]
theorem mag_pos_iff (k : Fin 8) : 0 < mag k ↔ k ≠ 0 := by fin_cases k <;> simp [mag]

end Nvfp4
-- ==== Proof.Quant.lean ====
module

public import proofs.«01_k».proof.Proof.Codes
public import Idealize.ShloMosaic.Lib.ValueIdx
public import Idealize.ShloMosaic.Lib.Pointwise

@[expose] public section

/-! # One value through the quantiser

The kernel works on values divided by 64, and multiplies by a reciprocal where the reference divides. Over the extended reals
both send a value to the same code. -/

namespace Nvfp4

open Idealize.ShloMosaic

/-- A 32-bit constant. -/
noncomputable abbrev c32 (b : BitVec 32) : EReal := Ideal.ofBits .f32 b

theorem c_half : c32 0x3F000000#32 = ((1 / 2 : ℝ) : EReal) := by
  simp [Ideal.ofBits, Ideal.ieee, -EReal.coe_mul] <;> norm_num
theorem c_one : c32 0x3F800000#32 = ((1 : ℝ) : EReal) := by
  simp [Ideal.ofBits, Ideal.ieee, -EReal.coe_mul] <;> norm_num
theorem c_threehalf : c32 0x3FC00000#32 = ((3 / 2 : ℝ) : EReal) := by
  simp [Ideal.ofBits, Ideal.ieee, -EReal.coe_mul] <;> norm_num
theorem c_two : c32 0x40000000#32 = ((2 : ℝ) : EReal) := by
  simp [Ideal.ofBits, Ideal.ieee, -EReal.coe_mul] <;> norm_num
theorem c_three : c32 0x40400000#32 = ((3 : ℝ) : EReal) := by
  simp [Ideal.ofBits, Ideal.ieee, -EReal.coe_mul] <;> norm_num
theorem c_four : c32 0x40800000#32 = ((4 : ℝ) : EReal) := by
  simp [Ideal.ofBits, Ideal.ieee, -EReal.coe_mul] <;> norm_num
theorem c_six : c32 0x40C00000#32 = ((6 : ℝ) : EReal) := by
  simp [Ideal.ofBits, Ideal.ieee, -EReal.coe_mul] <;> norm_num
theorem c_64 : c32 0x42800000#32 = ((64 : ℝ) : EReal) := by
  simp [Ideal.ofBits, Ideal.ieee, -EReal.coe_mul] <;> norm_num
theorem c_448 : c32 0x43E00000#32 = ((448 : ℝ) : EReal) := by
  simp [Ideal.ofBits, Ideal.ieee, -EReal.coe_mul] <;> norm_num
theorem c_zero : c32 0x00000000#32 = ((0 : ℝ) : EReal) := by
  simp [Ideal.ofBits, Ideal.ieee, -EReal.coe_mul]
theorem c_64th : c32 0x3C800000#32 = ((1 / 64 : ℝ) : EReal) := by
  simp [Ideal.ofBits, Ideal.ieee, -EReal.coe_mul] <;> norm_num
theorem c_32th : c32 0x3D000000#32 = ((1 / 32 : ℝ) : EReal) := by
  simp [Ideal.ofBits, Ideal.ieee, -EReal.coe_mul] <;> norm_num
theorem c_16th : c32 0x3D800000#32 = ((1 / 16 : ℝ) : EReal) := by
  simp [Ideal.ofBits, Ideal.ieee, -EReal.coe_mul] <;> norm_num
theorem c_hi : c32 0x3DC00000#32 = ((6 / 64 : ℝ) : EReal) := by
  simp [Ideal.ofBits, Ideal.ieee, -EReal.coe_mul] <;> norm_num
theorem c_lo : c32 0xBDC00000#32 = ((-(6 / 64) : ℝ) : EReal) := by
  simp [Ideal.ofBits, Ideal.ieee, -EReal.coe_mul, -EReal.coe_neg] <;> norm_num
theorem c_tiny : c32 0x3A800000#32 = ((1 / 1024 : ℝ) : EReal) := by
  simp [Ideal.ofBits, Ideal.ieee, -EReal.coe_mul] <;> norm_num
theorem c_bf64 : Ideal.ofBits .bf16 0x4280#16 = ((64 : ℝ) : EReal) := by
  simp [Ideal.ofBits, Ideal.ieee, -EReal.coe_mul] <;> norm_num

/-! ## The kernel's rounding and byte -/

/-- The clamp. -/
noncomputable def kClamp (y : EReal) : EReal := min (c32 0x3DC00000#32) (max (c32 0xBDC00000#32) y)

/-- Half the binade of a clamped value: the spacing of the codes there. -/
noncomputable def kStep (t : EReal) : EReal :=
  c32 0x3F000000#32 *
    Scalar.select (Ideal.cmp .olt (max t (-t)) (c32 0x3D000000#32)) (c32 0x3C800000#32)
      (Scalar.select (Ideal.cmp .olt (max t (-t)) (c32 0x3D800000#32)) (c32 0x3D000000#32) (c32 0x3D800000#32))

/-- A scaled value, rounded to the nearest code over 64. -/
noncomputable def kRound (y : EReal) : EReal :=
  Ideal.liftRound Ideal.roundHalfEven (Ideal.div (kClamp y) (kStep (kClamp y))) * kStep (kClamp y)

/-- The code's number, from the rounded value. -/
noncomputable def kIdx (v : EReal) : EReal :=
  Scalar.select (Ideal.cmp .olt (max v (-v) * c32 0x42800000#32) (c32 0x40000000#32))
    (c32 0x40000000#32 * (max v (-v) * c32 0x42800000#32))
    (Scalar.select (Ideal.cmp .olt (max v (-v) * c32 0x42800000#32) (c32 0x40800000#32))
      ((max v (-v) * c32 0x42800000#32) + c32 0x40000000#32)
      (c32 0x3F000000#32 * (max v (-v) * c32 0x42800000#32) + c32 0x40800000#32))

/-- The byte of a rounded value. -/
noncomputable def kByte (v : EReal) : BitVec 8 :=
  (Scalar.select (Ideal.cmp .olt v (c32 0x00000000#32)) (IntOp.ori (IntOp.shli .vector (Ideal.fptosi 32 (kIdx v)) 2#32) 128#32)
    (IntOp.shli .vector (Ideal.fptosi 32 (kIdx v)) 2#32)).setWidth 8

/-! ## The reference's rounding and code -/

/-- The clamped magnitude. -/
noncomputable def rMag (t : EReal) : EReal := min (max t (-t)) (c32 0x40C00000#32)

/-- The rounded magnitude. -/
noncomputable def rRound (m : EReal) : EReal :=
  Scalar.select (Ideal.cmp .olt m (c32 0x40000000#32))
    (Ideal.div (Ideal.liftRound Ideal.roundHalfEven (c32 0x40000000#32 * m)) (c32 0x40000000#32))
    (Scalar.select (Ideal.cmp .olt m (c32 0x40800000#32)) (Ideal.liftRound Ideal.roundHalfEven m)
      (c32 0x40000000#32 * Ideal.liftRound Ideal.roundHalfEven (Ideal.div m (c32 0x40000000#32))))

/-- The code's number. -/
noncomputable def rIdx (q : EReal) : EReal :=
  Scalar.select (Ideal.cmp .olt q (c32 0x40000000#32)) (c32 0x40000000#32 * q)
    (Scalar.select (Ideal.cmp .olt q (c32 0x40800000#32)) (q + c32 0x40000000#32)
      (Ideal.div q (c32 0x40000000#32) + c32 0x40800000#32))

/-- The code of a scaled value. -/
noncomputable def rCode (t : EReal) : BitVec 32 :=
  Scalar.select
    (IntOp.andi (Ideal.cmp .olt t (c32 0x00000000#32)) (Ideal.cmp .ogt (rRound (rMag t)) (c32 0x00000000#32)))
    (IntOp.ori (Ideal.fptosi 32 (rIdx (rRound (rMag t)))) 8#32) (Ideal.fptosi 32 (rIdx (rRound (rMag t))))

/-! ## On real numbers -/

theorem div_coe' (x y : ℝ) (hy : y ≠ 0) : Ideal.div (x : EReal) (y : EReal) = ((x / y : ℝ) : EReal) := by
  rw [Ideal.div, if_neg (by exact_mod_cast hy), div_eq_mul_inv, EReal.coe_mul, EReal.coe_inv]

theorem cmp_olt_coe (x y : ℝ) : Ideal.cmp .olt (x : EReal) (y : EReal) = BitVec.ofBool (decide (x < y)) := by
  simp [Ideal.cmp]

theorem ecoe_max (x y : ℝ) : ((max x y : ℝ) : EReal) = max (x : EReal) (y : EReal) := EReal.coe_strictMono.monotone.map_max
theorem ecoe_min (x y : ℝ) : ((min x y : ℝ) : EReal) = min (x : EReal) (y : EReal) := EReal.coe_strictMono.monotone.map_min

theorem abs_coe (x : ℝ) : max (x : EReal) (-(x : EReal)) = ((|x| : ℝ) : EReal) := by
  rw [← EReal.coe_neg, abs, ecoe_max]

theorem sel_coe (p : Prop) [Decidable p] (a b : ℝ) :
    Scalar.select (BitVec.ofBool (decide p)) (a : EReal) (b : EReal) = ((if p then a else b : ℝ) : EReal) := by
  rw [Scalar.select_decide]; split_ifs <;> rfl

theorem kStep_coe (τ : ℝ) : kStep ((τ / 64 : ℝ) : EReal) = ((stepOf |τ| / 64 : ℝ) : EReal) := by
  have e : |τ / 64| = |τ| / 64 := by rw [abs_div, abs_of_pos (by norm_num : (0:ℝ) < 64)]
  rw [kStep, abs_coe, e, c_half, c_32th, c_64th, c_16th, cmp_olt_coe, cmp_olt_coe, sel_coe, sel_coe, ← EReal.coe_mul]
  congr 1
  unfold stepOf
  have a1 : (|τ| / 64 < 1 / 32) ↔ |τ| < 2 := by constructor <;> intro h <;> linarith
  have a2 : (|τ| / 64 < 1 / 16) ↔ |τ| < 4 := by constructor <;> intro h <;> linarith
  simp only [a1, a2]
  split_ifs <;> norm_num

theorem kRound_of_clamp (y : EReal) (τ : ℝ) (h : kClamp y = ((τ / 64 : ℝ) : EReal)) :
    kRound y = (((if τ < 0 then -qOf |τ| else qOf |τ|) / 64 : ℝ) : EReal) := by
  have hp := stepOf_pos |τ|
  rw [kRound, h, kStep_coe, div_coe' _ _ (by positivity)]
  change ((Ideal.roundHalfEven _ : ℝ) : EReal) * _ = _
  rw [← EReal.coe_mul]
  congr 1
  have e : τ / 64 / (stepOf |τ| / 64) = τ / stepOf |τ| := by field_simp
  rw [e, qOf_eq_step]
  split_ifs with hn
  · have e2 : τ / stepOf |τ| = -(|τ| / stepOf |τ|) := by rw [abs_of_neg hn]; ring
    rw [e2, rhe_neg]; push_cast; ring
  · rw [abs_of_nonneg (not_lt.mp hn)]; ring

theorem kIdx_coe (v : ℝ) (k : Fin 8) (h : |v| = mag k / 64) : kIdx (v : EReal) = ((k.val : ℝ) : EReal) := by
  rw [kIdx, abs_coe, h, c_64, c_two, c_half, c_four, ← EReal.coe_mul, show mag k / 64 * 64 = mag k by ring, cmp_olt_coe,
    cmp_olt_coe, ← EReal.coe_mul, ← EReal.coe_mul, ← EReal.coe_add, ← EReal.coe_add, sel_coe, sel_coe, ← idxOf_mag k]
  unfold idxOf
  congr 1
  rw [show (1 / 2 : ℝ) * mag k = mag k / 2 by ring]

theorem fptosi_nat (k : Fin 8) : Ideal.fptosi 32 ((k.val : ℝ) : EReal) = BitVec.ofNat 32 k.val := by
  have h : ((k.val : ℝ)) = ((k.val : ℤ) : ℝ) := by push_cast; rfl
  change BitVec.ofInt 32 (max _ (min _ (if (0 : ℝ) ≤ (k.val : ℝ) then ⌊(k.val : ℝ)⌋ else ⌈(k.val : ℝ)⌉))) = _
  rw [if_pos (Nat.cast_nonneg _), h, Int.floor_intCast]
  clear h
  revert k; decide +kernel

/-- The sign of a code: the value's, unless the code is zero. -/
noncomputable def sgnOf (τ : ℝ) (k : Fin 8) : Bool := decide (τ < 0) && decide (k ≠ 0)

theorem kByte_of (τ : ℝ) (k : Fin 8) (hk : qOf |τ| = mag k) :
    kByte (((if τ < 0 then -qOf |τ| else qOf |τ|) / 64 : ℝ) : EReal) = byteOf k (sgnOf τ k) := by
  have h0 := mag_nonneg k
  rw [hk]
  have habs : |(if τ < 0 then -mag k else mag k) / 64| = mag k / 64 := by
    split_ifs
    · rw [neg_div, abs_neg, abs_of_nonneg (by positivity)]
    · rw [abs_of_nonneg (by positivity)]
  rw [kByte, kIdx_coe _ k habs, fptosi_nat, c_zero, cmp_olt_coe]
  have hs : decide ((if τ < 0 then -mag k else mag k) / 64 < 0) = sgnOf τ k := by
    unfold sgnOf
    rw [← Bool.decide_and]
    apply decide_eq_decide.mpr
    rw [← mag_pos_iff]
    split_ifs with h
    · constructor
      · intro h'; exact ⟨h, by linarith⟩
      · intro h'; linarith [h'.2]
    · constructor
      · intro h'; linarith
      · intro h'; exact absurd h'.1 h
  rw [hs]
  clear hs habs h0 hk
  generalize sgnOf τ k = s
  revert k s; clear * -; decide +kernel

theorem rRound_coe (m : ℝ) : rRound (m : EReal) = ((qOf m : ℝ) : EReal) := by
  rw [rRound, c_two, c_four, ← EReal.coe_mul, div_coe' _ _ (by norm_num), cmp_olt_coe, cmp_olt_coe]
  change Scalar.select _ (Ideal.div ((Ideal.roundHalfEven (2 * m) : ℝ) : EReal) _)
    (Scalar.select _ ((Ideal.roundHalfEven m : ℝ) : EReal) (_ * ((Ideal.roundHalfEven (m / 2) : ℝ) : EReal))) = _
  rw [div_coe' _ _ (by norm_num), ← EReal.coe_mul, sel_coe, sel_coe]
  rfl

theorem rIdx_coe (k : Fin 8) : rIdx ((mag k : ℝ) : EReal) = ((k.val : ℝ) : EReal) := by
  rw [rIdx, c_two, c_four, cmp_olt_coe, cmp_olt_coe, div_coe' _ _ (by norm_num), ← EReal.coe_mul, ← EReal.coe_add,
    ← EReal.coe_add, sel_coe, sel_coe, ← idxOf_mag k]
  rfl

theorem rCode_of (t : EReal) (τ : ℝ) (k : Fin 8) (hm : rMag t = ((|τ| : ℝ) : EReal)) (hs : t < 0 ↔ τ < 0)
    (hk : qOf |τ| = mag k) : rCode t = (nibOf k (sgnOf τ k)).setWidth 32 := by
  rw [rCode, hm, rRound_coe, hk, rIdx_coe, fptosi_nat, c_zero]
  have e1 : Ideal.cmp .olt t ((0 : ℝ) : EReal) = BitVec.ofBool (decide (τ < 0)) := by
    simp [Ideal.cmp, hs]
  have e2 : Ideal.cmp .ogt ((mag k : ℝ) : EReal) ((0 : ℝ) : EReal) = BitVec.ofBool (decide (k ≠ 0)) := by
    rw [Ideal.cmp]; congr 1
    change decide (((0 : ℝ) : EReal) < _) = _
    apply decide_eq_decide.mpr
    rw [EReal.coe_lt_coe_iff, mag_pos_iff]
  rw [e1, e2, sgnOf]
  generalize decide (τ < 0) = a
  clear * -
  revert k a; decide +kernel

/-- The two clamps of a value and of its 64th. -/
theorem clamps (t : EReal) : ∃ τ : ℝ, |τ| ≤ 6 ∧ kClamp (t * ((1 / 64 : ℝ) : EReal)) = ((τ / 64 : ℝ) : EReal)
    ∧ rMag t = ((|τ| : ℝ) : EReal) ∧ (t < 0 ↔ τ < 0) := by
  unfold kClamp rMag
  rw [c_hi, c_lo, c_six]
  induction t using EReal.rec with
  | bot =>
    refine ⟨-6, by norm_num, ?_, ?_, by simp⟩
    · rw [EReal.bot_mul_coe_of_pos (by norm_num), max_eq_left bot_le, ← ecoe_min]
      congr 1; norm_num
    · simp
  | top =>
    refine ⟨6, by norm_num, ?_, ?_, by simp⟩
    · rw [EReal.top_mul_coe_of_pos (by norm_num), max_eq_right le_top, min_eq_left le_top]
    · simp
  | coe r =>
    refine ⟨min 6 (max (-6) r), ?_, ?_, ?_, ?_⟩
    · rw [abs_le]; constructor
      · exact le_min (by norm_num) (le_max_left _ _)
      · exact min_le_left _ _
    · rw [← EReal.coe_mul, ← ecoe_max, ← ecoe_min]
      congr 1
      rcases le_total r (-6) with h | h
      · rw [max_eq_left (by linarith), max_eq_left h, min_eq_right (by norm_num), min_eq_right (by norm_num)]; norm_num
      · rw [max_eq_right (by linarith), max_eq_right h]
        rcases le_total r 6 with h' | h'
        · rw [min_eq_right (by linarith), min_eq_right h']; ring
        · rw [min_eq_left (by linarith), min_eq_left h']
    · rw [abs_coe, ← ecoe_min]
      congr 1
      rcases le_total r (-6) with h | h
      · rw [max_eq_left h, min_eq_right (by norm_num : (-6 : ℝ) ≤ 6), abs_of_nonpos (by norm_num : (-6 : ℝ) ≤ 0), neg_neg,
          min_eq_right (le_trans (by linarith) (neg_le_abs r))]
      · rw [max_eq_right h]
        rcases le_total r 6 with h' | h'
        · rw [min_eq_right h', min_eq_left (abs_le.mpr ⟨h, h'⟩)]
        · rw [min_eq_left h', abs_of_nonneg (by linarith), min_eq_right (by linarith)]; norm_num
    · rw [show (0 : EReal) = ((0 : ℝ) : EReal) from rfl, EReal.coe_lt_coe_iff]
      constructor
      · intro h; exact lt_of_le_of_lt (min_le_right _ _) (max_lt (by norm_num) h)
      · intro h
        by_contra hr
        have := le_min (by norm_num : (0:ℝ) ≤ 6) (le_trans (not_lt.mp hr) (le_max_right (-6) r))
        linarith

/-- **One value**: both quantisers give it the same code. -/
theorem code_eq (t : EReal) : ∃ (k : Fin 8) (s : Bool),
    kByte (kRound (t * ((1 / 64 : ℝ) : EReal))) = byteOf k s ∧ rCode t = (nibOf k s).setWidth 32 := by
  obtain ⟨τ, h6, hc, hm, hs⟩ := clamps t
  obtain ⟨k, hk⟩ := qOf_mem |τ| (abs_nonneg τ) h6
  exact ⟨k, sgnOf τ k, by rw [kRound_of_clamp _ τ hc, kByte_of τ k hk], rCode_of t τ k hm hs hk⟩

/-! ## The scale -/

/-- The scale of a group with largest magnitude `a`. -/
noncomputable def rawScale (a g6 : EReal) : EReal :=
  min (c32 0x43E00000#32) (max (c32 0x00000000#32) (Ideal.div (a * c32 0x3F800800#32) g6))

/-- The scale used: one where the scale falls under the smallest the format holds. -/
noncomputable def scaleOf (a g6 : EReal) : EReal :=
  Scalar.select (Ideal.cmp .ole (rawScale a g6) (c32 0x3A800000#32)) (c32 0x3F800000#32) (rawScale a g6)

theorem scaleOf_pos (a g6 : EReal) : ∃ r : ℝ, 0 < r ∧ scaleOf a g6 = (r : EReal) := by
  have hraw : ∃ r : ℝ, rawScale a g6 = (r : EReal) := by
    unfold rawScale
    rw [c_448, c_zero]
    generalize Ideal.div _ _ = z
    induction z using EReal.rec with
    | bot => exact ⟨0, by rw [max_eq_left bot_le, ← ecoe_min]; congr 1; norm_num⟩
    | top => exact ⟨448, by rw [max_eq_right le_top, min_eq_left le_top]⟩
    | coe z => exact ⟨min 448 (max 0 z), by rw [← ecoe_max, ← ecoe_min]⟩
  obtain ⟨r, hr⟩ := hraw
  rw [scaleOf, hr, c_tiny, c_one]
  have e : Ideal.cmp .ole (r : EReal) ((1 / 1024 : ℝ) : EReal) = BitVec.ofBool (decide (r ≤ 1 / 1024)) := by
    simp only [Ideal.cmp, EReal.coe_le_coe_iff]
  rw [e, sel_coe]
  by_cases h : r ≤ 1 / 1024
  · exact ⟨1, one_pos, by rw [if_pos h]⟩
  · exact ⟨r, by push Not at h; linarith, by rw [if_neg h]⟩

/-- The kernel multiplies by the reciprocal of 64 times what the reference divides by. -/
theorem recip_eq (x g s : EReal) (hs : ∃ r : ℝ, 0 < r ∧ s = (r : EReal)) (hg : g ≠ 0) :
    x * Ideal.div (c32 0x3F800000#32) (s * Ideal.div g (c32 0x3C800000#32)) = Ideal.div x (s * g) * ((1 / 64 : ℝ) : EReal) := by
  obtain ⟨r, hr, rfl⟩ := hs
  rw [c_one, c_64th]
  have h64 : ((1 / 64 : ℝ) : EReal) ≠ 0 := by exact_mod_cast (by norm_num : (1 / 64 : ℝ) ≠ 0)
  induction g using EReal.rec with
  | bot =>
    have e1 : Ideal.div ⊥ ((1 / 64 : ℝ) : EReal) = ⊥ := by
      rw [Ideal.div, if_neg h64, ← EReal.coe_inv, EReal.bot_mul_coe_of_pos (by norm_num)]
    rw [e1, EReal.coe_mul_bot_of_pos hr]
    simp [Ideal.div]
  | top =>
    have e1 : Ideal.div ⊤ ((1 / 64 : ℝ) : EReal) = ⊤ := by
      rw [Ideal.div, if_neg h64, ← EReal.coe_inv, EReal.top_mul_coe_of_pos (by norm_num)]
    rw [e1, EReal.coe_mul_top_of_pos hr]
    simp [Ideal.div]
  | coe g =>
    have hg' : g ≠ 0 := by exact_mod_cast hg
    have hrg : r * g ≠ 0 := mul_ne_zero hr.ne' hg'
    rw [div_coe' g _ (by norm_num), ← EReal.coe_mul, ← EReal.coe_mul, div_coe' 1 _ (by simp; exact ⟨hr.ne', hg'⟩), Ideal.div,
      if_neg (by exact_mod_cast hrg), ← EReal.coe_inv, mul_assoc, ← EReal.coe_mul]
    congr 2
    field_simp

/-! ## Decoding -/

/-- The reference's reading of four bits. -/
noncomputable def rDec (n : BitVec 32) : EReal :=
  let b (j : BitVec 32) : BitVec 1 := IntOp.cmpi .ne (IntOp.andi n j) 0#32
  let m := Scalar.select (b 4#32)
    (Scalar.select (b 2#32) (Scalar.select (b 1#32) (c32 0x40C00000#32) (c32 0x40800000#32))
      (Scalar.select (b 1#32) (c32 0x40400000#32) (c32 0x40000000#32)))
    (Scalar.select (b 2#32) (Scalar.select (b 1#32) (c32 0x3FC00000#32) (c32 0x3F800000#32))
      (Scalar.select (b 1#32) (c32 0x3F000000#32) (c32 0x00000000#32)))
  Scalar.select (b 8#32) (c32 0x00000000#32 - m) m

theorem rDec_eq (k : Fin 8) (s : Bool) (n : BitVec 32) (hn : n = (nibOf k s).setWidth 32) :
    rDec n = ((val k s : ℝ) : EReal) := by
  subst hn
  unfold rDec
  have hb : ∀ (k : Fin 8) (s : Bool),
      IntOp.cmpi .ne (IntOp.andi ((nibOf k s).setWidth 32) 1#32) 0#32 = BitVec.ofBool (k.val.testBit 0)
      ∧ IntOp.cmpi .ne (IntOp.andi ((nibOf k s).setWidth 32) 2#32) 0#32 = BitVec.ofBool (k.val.testBit 1)
      ∧ IntOp.cmpi .ne (IntOp.andi ((nibOf k s).setWidth 32) 4#32) 0#32 = BitVec.ofBool (k.val.testBit 2)
      ∧ IntOp.cmpi .ne (IntOp.andi ((nibOf k s).setWidth 32) 8#32) 0#32 = BitVec.ofBool s := by decide +kernel
  dsimp only
  rw [(hb k s).1, (hb k s).2.1, (hb k s).2.2.1, (hb k s).2.2.2, c_zero, c_half, c_one, c_threehalf, c_two, c_three, c_four, c_six]
  clear hb
  fin_cases k <;> cases s <;> simp [Scalar.select, val, mag, Nat.testBit] <;> norm_num

/-- The four bits of a code, read back from a packed byte's halves. -/
theorem nib_low : ∀ (b : BitVec 8), ∃ (k : Fin 8) (s : Bool), loByte b = byteOf k s
    ∧ IntOp.andi (b.setWidth 32) 15#32 = (nibOf k s).setWidth 32 := by decide +kernel

theorem nib_high : ∀ (b : BitVec 8), ∃ (k : Fin 8) (s : Bool), hiByte b = byteOf k s
    ∧ IntOp.shrsi .vector (b.setWidth 32) 4#32 = (nibOf k s).setWidth 32 := by decide +kernel

/-- The reference's packed byte. -/
def rPack (lo hi : BitVec 32) : BitVec 8 := (IntOp.ori lo (IntOp.shli .vector hi 4#32)).setWidth 8

theorem rPack_nib : ∀ (k k' : Fin 8) (s s' : Bool),
    rPack ((nibOf k s).setWidth 32) ((nibOf k' s').setWidth 32) = packByte (byteOf k s) (byteOf k' s')
    ∧ IntOp.andi ((rPack ((nibOf k s).setWidth 32) ((nibOf k' s').setWidth 32)).setWidth 32) 15#32 = (nibOf k s).setWidth 32
    ∧ IntOp.shrsi .vector ((rPack ((nibOf k s).setWidth 32) ((nibOf k' s').setWidth 32)).setWidth 32) 4#32 = (nibOf k' s').setWidth 32
    := by decide +kernel

/-- The kernel's reading of a stored byte times 64 times the scale is the reference's reading times the scale. -/
theorem dec_mul (k : Fin 8) (s : Bool) (n : BitVec 32) (hn : n = (nibOf k s).setWidth 32) (sc : EReal) :
    Ideal.e4m3fn (byteOf k s) * (sc * ((64 : ℝ) : EReal)) = rDec n * sc := by
  rw [rDec_eq k s n hn, e4m3_byteOf, mul_comm sc, ← mul_assoc, ← EReal.coe_mul]
  congr 2
  ring

end Nvfp4
-- ==== Proof.Slab.lean ====
module

public import proofs.«01_k».proof.Proof.Gen.KernelIdeal.Skeleton
public import proofs.«01_k».proof.Proof.Quant
public import proofs.«01_k».proof.Proof.Words

@[expose] public section

set_option maxRecDepth 16384

/-! # One slab of 256 columns through the kernel's quantiser

The kernel takes 32 rows of 256 columns as two blocks of 128 lanes. It sorts them into even and odd columns, finds each
group's largest magnitude by exchanging lanes, and works on the two halves lane by lane. -/

noncomputable section

namespace Cert.KernelIdeal.Gen.Slab

open Idealize.ShloMosaic hiding ix0 ix1 ix2 ix3
open Idealize.ShloMosaic.TcCoe Idealize.ShloMosaic.ValueIdx
open Cert.KernelIdeal Cert.KernelIdeal.Gen Nvfp4

/-- The number of each lane. -/
abbrev lanes : IVec S32x128 32 := iota .tc S32x128 32 [1] iota_S32x128_d1_w32

theorem lanes_apply (i : Fin 32) (l : Fin 128) : lanes (ix2 i l) = BitVec.ofNat 32 l.val :=
  iota_single_apply .tc S32x128 32 1 _ _

/-- A gather along the lanes, as the kernel prints it: a negative index counts from the end. -/
def gath (x : S32x128.Idx → EReal) (p : IVec S32x128 32) : S32x128.Idx → EReal :=
  dynamicGather 1 x
    (shapeCast S32x128 (shapeCast S32x128x1
      (select (cmpi .slt p (broadcast S32x128 0#32)) (addi p (broadcast S32x128 128#32)) p)
      shapeCasts_S32x128_S32x128x1) shapeCasts_S32x128x1_S32x128)

theorem gath_apply (x : S32x128.Idx → EReal) (p : IVec S32x128 32) (i : Fin 32) (l q : Fin 128)
    (h : p (ix2 i l) = BitVec.ofNat 32 q.val) : gath x p (ix2 i l) = x (ix2 i q) := by
  have e : ∀ q : Fin 128, (Scalar.select (IntOp.cmpi .slt (BitVec.ofNat 32 q.val) 0#32) (IntOp.addi (BitVec.ofNat 32 q.val) 128#32)
      (BitVec.ofNat 32 q.val)).toNat % 128 = q.val := by decide +kernel
  unfold gath
  rw [shapeCast_shapeCast]
  show x _ = _
  congr 1
  funext b
  match b with
  | ⟨0, _⟩ => rfl
  | ⟨1, _⟩ =>
    refine Fin.ext ?_
    show (Scalar.select (IntOp.cmpi .slt (p (ix2 i l)) 0#32) (IntOp.addi (p (ix2 i l)) 128#32) (p (ix2 i l))).toNat % 128 = q.val
    rw [h, e]

/-! ## Even and odd columns -/

/-- The lane that holds the even column a lane wants, in one block or the other. -/
def lo (l : Fin 128) : Fin 128 := ⟨2 * l.val % 128 + l.val / 64, by omega⟩

theorem pay41_apply (i : Fin 32) (l : Fin 128) : k0_pay41 (ix2 i l) = BitVec.ofNat 32 (lo l).val := by
  have e : ∀ l : Fin 128, IntOp.ori (IntOp.andi (IntOp.muli (BitVec.ofNat 32 l.val) 2#32) 127#32)
      (IntOp.shrsi .vector (BitVec.ofNat 32 l.val) 6#32) = BitVec.ofNat 32 (lo l).val := by decide +kernel
  show IntOp.ori (IntOp.andi (IntOp.muli (lanes (ix2 i l)) 2#32) 127#32) (IntOp.shrsi .vector (lanes (ix2 i l)) 6#32) = _
  rw [lanes_apply, e]

/-- Its neighbour. -/
def lo' (l : Fin 128) : Fin 128 := ⟨2 * l.val % 128 + (1 - l.val / 64), by omega⟩

theorem pay42_apply (i : Fin 32) (l : Fin 128) : k0_pay42 (ix2 i l) = BitVec.ofNat 32 (lo' l).val := by
  have e : ∀ l : Fin 128, IntOp.xori (BitVec.ofNat 32 (lo l).val) 1#32 = BitVec.ofNat 32 (lo' l).val := by decide +kernel
  show IntOp.xori (k0_pay41 (ix2 i l)) 1#32 = _
  rw [pay41_apply, e]

theorem pay43_apply (i : Fin 32) (l : Fin 128) : k0_pay43 (ix2 i l) = BitVec.ofBool (decide (l.val < 64)) := by
  have e : ∀ l : Fin 128, IntOp.cmpi .slt (BitVec.ofNat 32 l.val) 64#32 = BitVec.ofBool (decide (l.val < 64)) := by decide +kernel
  show IntOp.cmpi .slt (lanes (ix2 i l)) 64#32 = _
  rw [lanes_apply, e]

/-- The even columns of a slab, from its two blocks. -/
def evens (u0 u1 : S32x128.Idx → EReal) : S32x128.Idx → EReal := select k0_pay43 (gath u0 k0_pay41) (gath u1 k0_pay42)

/-- The odd columns: gathered half a block off, and rotated into place. -/
def odds (u0 u1 : S32x128.Idx → EReal) : S32x128.Idx → EReal :=
  dynamicRotate 1 64#32 none (select k0_pay43 (gath u1 k0_pay42) (gath u0 k0_pay41)) rotates_S32x128_d1

/-- The two blocks hold the row `x` of 256 columns at row `i`. -/
def Holds (u0 u1 : S32x128.Idx → EReal) (i : Fin 32) (x : Fin 256 → EReal) : Prop :=
  (∀ l : Fin 128, u0 (ix2 i l) = x ⟨l.val, by omega⟩) ∧ ∀ l : Fin 128, u1 (ix2 i l) = x ⟨128 + l.val, by omega⟩

section
variable {u0 u1 : S32x128.Idx → EReal} {i : Fin 32} {x : Fin 256 → EReal} (hx : Holds u0 u1 i x)
include hx

theorem evens_apply (l : Fin 128) : evens u0 u1 (ix2 i l) = x ⟨2 * l.val, by omega⟩ := by
  show Scalar.select (k0_pay43 (ix2 i l)) (gath u0 k0_pay41 (ix2 i l)) (gath u1 k0_pay42 (ix2 i l)) = _
  rw [pay43_apply, gath_apply _ _ _ _ _ (pay41_apply i l), gath_apply _ _ _ _ _ (pay42_apply i l), hx.1, hx.2, Scalar.select_decide]
  by_cases h : l.val < 64
  · rw [if_pos h]; congr 1; apply Fin.ext; simp only [lo]; omega
  · rw [if_neg h]; congr 1; apply Fin.ext; simp only [lo']; omega

theorem odds_apply (l : Fin 128) : odds u0 u1 (ix2 i l) = x ⟨2 * l.val + 1, by omega⟩ := by
  have e : odds u0 u1 (ix2 i l) = select k0_pay43 (gath u1 k0_pay42) (gath u0 k0_pay41) (ix2 i ⟨(l.val + 64) % 128, by omega⟩) := by
    show select k0_pay43 (gath u1 k0_pay42) (gath u0 k0_pay41) _ = _
    congr 1
    funext b
    match b with
    | ⟨0, _⟩ => rfl
    | ⟨1, _⟩ => exact Fin.ext (by show (l.val + 128 - 64 % 128) % 128 = (l.val + 64) % 128; omega)
  rw [e]
  generalize hl : (⟨(l.val + 64) % 128, _⟩ : Fin 128) = l'
  have hv : l'.val = (l.val + 64) % 128 := by rw [← hl]
  show Scalar.select (k0_pay43 (ix2 i l')) (gath u1 k0_pay42 (ix2 i l')) (gath u0 k0_pay41 (ix2 i l')) = _
  rw [pay43_apply, gath_apply _ _ _ _ _ (pay41_apply i l'), gath_apply _ _ _ _ _ (pay42_apply i l'), hx.1, hx.2, Scalar.select_decide]
  by_cases h : l.val < 64
  · rw [if_neg (by omega)]; congr 1; apply Fin.ext; simp only [lo]; omega
  · rw [if_pos (by omega)]; congr 1; apply Fin.ext; simp only [lo']; omega

end

/-! ## The largest magnitude of a group -/

/-- Lane `p` of group `q` of the slab: eight lanes hold a group's sixteen columns. -/
def L (q : Fin 16) (p : Fin 8) : Fin 128 := ⟨8 * q.val + p.val, by omega⟩

theorem exists_L (l : Fin 128) : ∃ q p, l = L q p :=
  ⟨⟨l.val / 8, by omega⟩, ⟨l.val % 8, by omega⟩, Fin.ext (by simp only [L]; omega)⟩

/-- The largest magnitude of a lane and its partner `d` lanes off. -/
def swp (m : S32x128.Idx → EReal) (d : BitVec 32) : S32x128.Idx → EReal :=
  maximumf (F := Ideal) (φ := .f32) m (gath m (xori lanes (broadcast S32x128 d)))

theorem swp_apply (m : S32x128.Idx → EReal) (i : Fin 32) (q : Fin 16) (p : Fin 8) (d : BitVec 32) (e : Fin 8)
    (h : ∀ (q : Fin 16) (p : Fin 8), IntOp.xori (BitVec.ofNat 32 (L q p).val) d = BitVec.ofNat 32 (L q (p ^^^ e)).val) :
    swp m d (ix2 i (L q p)) = max (m (ix2 i (L q p))) (m (ix2 i (L q (p ^^^ e)))) := by
  have h' : xori lanes (broadcast S32x128 d) (ix2 i (L q p)) = BitVec.ofNat 32 (L q (p ^^^ e)).val := by
    show IntOp.xori (lanes (ix2 i (L q p))) d = _
    rw [lanes_apply, h]
  show max _ (gath m _ _) = _
  rw [gath_apply m _ i _ _ h']

theorem x1 : ∀ (q : Fin 16) (p : Fin 8), IntOp.xori (BitVec.ofNat 32 (L q p).val) 1#32 = BitVec.ofNat 32 (L q (p ^^^ 1)).val := by
  decide +kernel
theorem x2 : ∀ (q : Fin 16) (p : Fin 8), IntOp.xori (BitVec.ofNat 32 (L q p).val) 2#32 = BitVec.ofNat 32 (L q (p ^^^ 2)).val := by
  decide +kernel
theorem x4 : ∀ (q : Fin 16) (p : Fin 8), IntOp.xori (BitVec.ofNat 32 (L q p).val) 4#32 = BitVec.ofNat 32 (L q (p ^^^ 4)).val := by
  decide +kernel

/-- The magnitude. -/
def mg (x : EReal) : EReal := max x (-x)

/-- The largest of each group, on all its lanes. -/
def amax (e o : S32x128.Idx → EReal) : S32x128.Idx → EReal :=
  swp (swp (swp (maximumf (F := Ideal) (φ := .f32) (absf (F := Ideal) (φ := .f32) e) (absf (F := Ideal) (φ := .f32) o)) 1#32) 2#32) 4#32

/-- The largest of eight, from three exchanges. -/
theorem tree (m : Fin 8 → EReal) : ∀ p : Fin 8,
    max (max (max (m p) (m (p ^^^ 1))) (max (m (p ^^^ 2)) (m ((p ^^^ 2) ^^^ 1))))
      (max (max (m (p ^^^ 4)) (m ((p ^^^ 4) ^^^ 1))) (max (m ((p ^^^ 4) ^^^ 2)) (m (((p ^^^ 4) ^^^ 2) ^^^ 1))))
    = max (max (max (m 0) (m 1)) (max (m 2) (m 3))) (max (max (m 4) (m 5)) (max (m 6) (m 7))) := by
  intro p
  fin_cases p
  · rfl
  all_goals
    simp only [Fin.reduceFinMk, Fin.reduceXor, Fin.isValue]
    ac_rfl

/-- Sixteen as eight pairs. -/
theorem pairs (f : Fin 16 → EReal) :
    max (max (max (max (f 0) (f 1)) (max (f 2) (f 3))) (max (max (f 4) (f 5)) (max (f 6) (f 7))))
      (max (max (max (f 8) (f 9)) (max (f 10) (f 11))) (max (max (f 12) (f 13)) (max (f 14) (f 15))))
    = Finset.univ.sup f := by
  apply le_antisymm
  · repeat' apply max_le
    all_goals exact Finset.le_sup (f := f) (Finset.mem_univ _)
  · refine Finset.sup_le fun n _ => ?_
    fin_cases n <;> simp [le_max_iff]

/-- The largest magnitude of the slab's group `q`. -/
def top (x : Fin 256 → EReal) (q : Fin 16) : EReal := Finset.univ.sup fun n : Fin 16 => mg (x ⟨16 * q.val + n.val, by omega⟩)

section
variable {u0 u1 : S32x128.Idx → EReal} {i : Fin 32} {x : Fin 256 → EReal} (hx : Holds u0 u1 i x)
include hx

theorem evens_L (q : Fin 16) (p : Fin 8) : evens u0 u1 (ix2 i (L q p)) = x ⟨16 * q.val + 2 * p.val, by omega⟩ := by
  rw [evens_apply hx]; congr 1; apply Fin.ext; simp only [L]; omega

theorem odds_L (q : Fin 16) (p : Fin 8) : odds u0 u1 (ix2 i (L q p)) = x ⟨16 * q.val + (2 * p.val + 1), by omega⟩ := by
  rw [odds_apply hx]; congr 1; apply Fin.ext; simp only [L]; omega

theorem amax_apply (q : Fin 16) (p : Fin 8) : amax (evens u0 u1) (odds u0 u1) (ix2 i (L q p)) = top x q := by
  unfold amax
  rw [swp_apply _ i q p _ 4 x4, swp_apply _ i q p _ 2 x2, swp_apply _ i q (p ^^^ 4) _ 2 x2, swp_apply _ i q p _ 1 x1,
    swp_apply _ i q (p ^^^ 2) _ 1 x1, swp_apply _ i q (p ^^^ 4) _ 1 x1, swp_apply _ i q ((p ^^^ 4) ^^^ 2) _ 1 x1]
  have h : ∀ j, maximumf (F := Ideal) (φ := .f32) (absf (evens u0 u1)) (absf (odds u0 u1)) j
      = max (mg (evens u0 u1 j)) (mg (odds u0 u1 j)) := fun _ => rfl
  simp only [h]
  rw [tree (fun p => max (mg (evens u0 u1 (ix2 i (L q p)))) (mg (odds u0 u1 (ix2 i (L q p))))) p]
  simp only [evens_L hx, odds_L hx]
  exact pairs fun n : Fin 16 => mg (x ⟨16 * q.val + n.val, by omega⟩)

end

end Cert.KernelIdeal.Gen.Slab
-- ==== Proof.Slab2.lean ====
module

public import proofs.«01_k».proof.Proof.Slab

@[expose] public section

set_option maxRecDepth 16384

/-! # What a slab stores

The scale of each group, the packed codes and the decoded values, lane by lane. -/

noncomputable section

namespace Cert.KernelIdeal.Gen.Slab

open Idealize.ShloMosaic hiding ix0 ix1 ix2 ix3
open Idealize.ShloMosaic.TcCoe Idealize.ShloMosaic.ValueIdx
open Cert.KernelIdeal Cert.KernelIdeal.Gen Nvfp4

/-- A 32-bit constant on every lane. -/
abbrev k32 (b : BitVec 32) : FVec Ideal S32x128 .f32 := broadcast S32x128 (Scalar.ofBits (F := Ideal) .f32 b)

/-- The raw scale, clamped to the format's range. -/
def raw (v0 : EReal) (e o : FVec Ideal S32x128 .f32) : FVec Ideal S32x128 .f32 :=
  minimumf (k32 0x43E00000#32) (maximumf (k32 0x00000000#32)
    (divf (mulf (amax e o) (k32 0x3F800800#32)) (broadcastTo S32x128 (k0_pay1 (F := Ideal) v0) broadcasts_S1x128_S32x128)))

/-- The scale stored. -/
def scl (v0 : EReal) (e o : FVec Ideal S32x128 .f32) : FVec Ideal S32x128 .fp8e4m3 :=
  truncf .fp8e4m3 (select (cmpf .ole (raw v0 e o) (k32 0x3A800000#32)) (k32 0x3F800000#32) (raw v0 e o)) bitsLt_fp8e4m3_f32

/-- What a column is multiplied by. -/
def rcp (v0 : EReal) (e o : FVec Ideal S32x128 .f32) : FVec Ideal S32x128 .f32 :=
  divf (k32 0x3F800000#32)
    (mulf (extf .f32 (scl v0 e o) bitsLt_fp8e4m3_f32) (broadcast S32x128 (k0_pay2 (F := Ideal) v0)))

/-- A column rounded. -/
def rnd (x r : FVec Ideal S32x128 .f32) : FVec Ideal S32x128 .f32 := k0_pay58 x r

/-- The bytes of rounded values. -/
def byt (v : FVec Ideal S32x128 .f32) : IVec S32x128 8 :=
  let a : FVec Ideal S32x128 .f32 := mulf (absf v) (k32 0x42800000#32)
  let n : IVec S32x128 32 := shli (fptosi 32 (select (cmpf .olt a (k32 0x40000000#32)) (mulf (k32 0x40000000#32) a)
    (select (cmpf .olt a (k32 0x40800000#32)) (addf a (k32 0x40000000#32))
      (addf (mulf (k32 0x3F000000#32) a) (k32 0x40800000#32))))) (broadcast S32x128 2#32)
  trunci 8 (select (cmpf .olt v (k32 0x00000000#32)) (ori n (broadcast S32x128 128#32)) n) natLt_8_32

/-- Four rows' bytes as words. -/
def wrd (b : IVec S32x128 8) : IVec S8x128 32 := bitcast S8x128 32 b bitcasts_S32x128_w8_S8x128_w32

/-- The words' bytes. -/
def unw (w : IVec S8x128 32) : IVec S32x128 8 := bitcast S32x128 8 w bitcasts_S8x128_w32_S32x128_w8

/-- The words of packed codes, from the words of the even and of the odd columns. -/
def pkw (e o : IVec S8x128 32) : IVec S8x128 32 :=
  ori (ori (ori (andi (shrui e (broadcast S8x128 4#32)) (broadcast S8x128 134744072#32))
      (andi (shrui e (broadcast S8x128 2#32)) (broadcast S8x128 117901063#32)))
      (andi o (broadcast S8x128 2155905152#32)))
    (andi (shli o (broadcast S8x128 2#32)) (broadcast S8x128 1886417008#32))

/-- The packed codes. -/
def packed (e o : IVec S8x128 32) : IVec S32x128 8 := unw (pkw e o)

/-- The stored words' values, times 64 times the scale. -/
def dec (s : FVec Ideal S32x128 .bf16) (w : IVec S8x128 32) : FVec Ideal S32x128 .bf16 :=
  mulf (extf .bf16 (bitcastToFloat .fp8e4m3 (unw w)) bitsLt_fp8e4m3_bf16) s

/-- 64 times the scale. -/
def s64 (s : FVec Ideal S32x128 .fp8e4m3) : FVec Ideal S32x128 .bf16 :=
  mulf (extf .bf16 s bitsLt_fp8e4m3_bf16) (broadcast S32x128 (Scalar.ofBits (F := Ideal) .bf16 0x4280#16))

/-- The scale of the group of a lane's number modulo 16. -/
def cmpct (s : FVec Ideal S32x128 .fp8e4m3) : FVec Ideal S32x128 .f32 :=
  gath (extf .f32 s bitsLt_fp8e4m3_f32) (shli (andi lanes (broadcast S32x128 15#32)) (broadcast S32x128 3#32))

/-! ## Lane by lane -/

theorem raw_apply (v0 : EReal) (e o : FVec Ideal S32x128 .f32) (j : S32x128.Idx) :
    raw v0 e o j = rawScale (amax e o j) (c32 0x40C00000#32 * v0) := rfl

theorem scl_apply (v0 : EReal) (e o : FVec Ideal S32x128 .f32) (j : S32x128.Idx) :
    scl v0 e o j = scaleOf (amax e o j) (c32 0x40C00000#32 * v0) := rfl

theorem rcp_apply (v0 : EReal) (e o : FVec Ideal S32x128 .f32) (j : S32x128.Idx) :
    rcp v0 e o j = Ideal.div (c32 0x3F800000#32) (scl v0 e o j * Ideal.div v0 (c32 0x3C800000#32)) := rfl

theorem rnd_apply (x r : FVec Ideal S32x128 .f32) (j : S32x128.Idx) : rnd x r j = kRound (x j * r j) := rfl

theorem byt_apply (v : FVec Ideal S32x128 .f32) (j : S32x128.Idx) : byt v j = kByte (v j) := rfl

theorem unw_wrd (b : IVec S32x128 8) (i : Fin 32) (l : Fin 128) : unw (wrd b) (ix2 i l) = b (ix2 i l) :=
  byte_eq_of_hasByte _ _ i l _ (hasByte_word b _ i l)

theorem pkw_apply (e o : IVec S8x128 32) (j : S8x128.Idx) : pkw e o j
    = ((((e j >>> 4) &&& 134744072#32) ||| ((e j >>> 2) &&& 117901063#32)) ||| (o j &&& 2155905152#32))
      ||| ((o j <<< 2) &&& 1886417008#32) := rfl

theorem packed_apply (e o : IVec S32x128 8) (i : Fin 32) (l : Fin 128) :
    packed (wrd e) (wrd o) (ix2 i l) = packByte (e (ix2 i l)) (o (ix2 i l)) := by
  unfold packed unw
  refine byte_eq_of_hasByte _ bitcasts_S8x128_w32_S32x128_w8 i l (packByte (e (ix2 i l)) (o (ix2 i l))) ?_
  rw [pkw_apply]
  exact hasByte_pack _ _ _ (Nat.mod_lt _ (by decide)) _ _ (hasByte_word e _ i l) (hasByte_word o _ i l)

theorem dec_apply (s : FVec Ideal S32x128 .bf16) (w : IVec S8x128 32) (j : S32x128.Idx) :
    dec s w j = Ideal.e4m3fn (unw w j) * s j := rfl

theorem s64_apply (s : FVec Ideal S32x128 .fp8e4m3) (j : S32x128.Idx) : s64 s j = s j * ((64 : ℝ) : EReal) := by
  rw [← c_bf64]; rfl

theorem cmpct_apply (s : FVec Ideal S32x128 .fp8e4m3) (i : Fin 32) (l : Fin 128) :
    cmpct s (ix2 i l) = s (ix2 i (L ⟨l.val % 16, by omega⟩ 0)) := by
  have h : ∀ l : Fin 128, IntOp.shli .vector (IntOp.andi (BitVec.ofNat 32 l.val) 15#32) 3#32
      = BitVec.ofNat 32 (L ⟨l.val % 16, by omega⟩ 0).val := by decide +kernel
  refine gath_apply _ _ i l _ ?_
  show IntOp.shli .vector (IntOp.andi (lanes (ix2 i l)) 15#32) 3#32 = _
  rw [lanes_apply, h]

/-- A column's code: its scaled value, on the format's grid. -/
def code (g s x : EReal) : BitVec 32 := rCode (Ideal.div x (s * g))

section
variable {u0 u1 : S32x128.Idx → EReal} {i : Fin 32} {x : Fin 256 → EReal} (hx : Holds u0 u1 i x) {g : EReal} (hg : g ≠ 0)
include hx

/-- The scale of the slab's group `q`. -/
theorem scl_L (q : Fin 16) (p : Fin 8) :
    scl g (evens u0 u1) (odds u0 u1) (ix2 i (L q p)) = scaleOf (top x q) (c32 0x40C00000#32 * g) := by
  rw [scl_apply, amax_apply hx]

include hg

/-- The byte of one column of group `q`, and its code. -/
theorem byt_L (v : FVec Ideal S32x128 .f32) (q : Fin 16) (p : Fin 8) : ∃ (k : Fin 8) (s : Bool),
    byt (rnd v (rcp g (evens u0 u1) (odds u0 u1))) (ix2 i (L q p)) = byteOf k s
    ∧ code g (scaleOf (top x q) (c32 0x40C00000#32 * g)) (v (ix2 i (L q p))) = (nibOf k s).setWidth 32 := by
  rw [byt_apply, rnd_apply, rcp_apply, scl_L hx, recip_eq _ g _ (scaleOf_pos _ _) hg]
  exact code_eq _

theorem packed_L (q : Fin 16) (p : Fin 8) :
    packed (wrd (byt (rnd (evens u0 u1) (rcp g (evens u0 u1) (odds u0 u1)))))
      (wrd (byt (rnd (odds u0 u1) (rcp g (evens u0 u1) (odds u0 u1))))) (ix2 i (L q p))
    = rPack (code g (scaleOf (top x q) (c32 0x40C00000#32 * g)) (x ⟨16 * q.val + 2 * p.val, by omega⟩))
        (code g (scaleOf (top x q) (c32 0x40C00000#32 * g)) (x ⟨16 * q.val + (2 * p.val + 1), by omega⟩)) := by
  obtain ⟨k, s, hb, hc⟩ := byt_L hx hg (evens u0 u1) q p
  obtain ⟨k', s', hb', hc'⟩ := byt_L hx hg (odds u0 u1) q p
  rw [evens_L hx] at hc
  rw [odds_L hx] at hc'
  rw [packed_apply, hb, hb', hc, hc', (rPack_nib k k' s s').1]

theorem dec_L (v : FVec Ideal S32x128 .f32) (q : Fin 16) (p : Fin 8) :
    dec (s64 (scl g (evens u0 u1) (odds u0 u1))) (wrd (byt (rnd v (rcp g (evens u0 u1) (odds u0 u1))))) (ix2 i (L q p))
    = rDec (code g (scaleOf (top x q) (c32 0x40C00000#32 * g)) (v (ix2 i (L q p))))
        * scaleOf (top x q) (c32 0x40C00000#32 * g) := by
  obtain ⟨k, s, hb, hc⟩ := byt_L hx hg v q p
  rw [dec_apply, unw_wrd, hb, s64_apply, scl_L hx, dec_mul k s _ hc]

end

/-! ## A weight's words -/

/-- The words of the low codes. -/
def lows (w : IVec S8x128 32) : IVec S8x128 32 :=
  ori (andi (shli w (broadcast S8x128 2#32)) (broadcast S8x128 471604252#32))
    (andi (shli w (broadcast S8x128 4#32)) (broadcast S8x128 2155905152#32))

/-- The words of the high codes. -/
def highs (w : IVec S8x128 32) : IVec S8x128 32 :=
  ori (andi (shrui w (broadcast S8x128 2#32)) (broadcast S8x128 471604252#32)) (andi w (broadcast S8x128 2155905152#32))

theorem lows_apply (b : IVec S32x128 8) (i : Fin 32) (l : Fin 128) : unw (lows (wrd b)) (ix2 i l) = loByte (b (ix2 i l)) :=
  byte_eq_of_hasByte _ _ i l _ (hasByte_lo _ _ (Nat.mod_lt _ (by decide)) _ (hasByte_word b _ i l))

theorem highs_apply (b : IVec S32x128 8) (i : Fin 32) (l : Fin 128) : unw (highs (wrd b)) (ix2 i l) = hiByte (b (ix2 i l)) :=
  byte_eq_of_hasByte _ _ i l _ (hasByte_hi _ _ (Nat.mod_lt _ (by decide)) _ (hasByte_word b _ i l))

/-- The scales of the groups of one slab of a weight's columns, eight lanes to a group: column `l / 8 + o` of the block. -/
def wscl (s : FVec Ideal S32x128 .fp8e4m3) (o : BitVec 32) : FVec Ideal S32x128 .bf16 :=
  truncf .bf16 (gath (extf .f32 (s64 s) bitsLt_bf16_f32)
    (addi (shrsi lanes (broadcast S32x128 3#32)) (broadcast S32x128 o))) bitsLt_bf16_f32

theorem wscl_apply (s : FVec Ideal S32x128 .fp8e4m3) (c : Fin 6) (i : Fin 32) (l : Fin 128) :
    wscl s (BitVec.ofNat 32 (16 * c.val)) (ix2 i l) = s (ix2 i ⟨16 * c.val + l.val / 8, by omega⟩) * ((64 : ℝ) : EReal) := by
  have h : ∀ (c : Fin 6) (l : Fin 128), IntOp.addi (IntOp.shrsi .vector (BitVec.ofNat 32 l.val) 3#32) (BitVec.ofNat 32 (16 * c.val))
      = BitVec.ofNat 32 (16 * c.val + l.val / 8) := by decide +kernel
  have h' : addi (shrsi lanes (broadcast S32x128 3#32)) (broadcast S32x128 (BitVec.ofNat 32 (16 * c.val))) (ix2 i l)
      = BitVec.ofNat 32 (⟨16 * c.val + l.val / 8, by omega⟩ : Fin 128).val := by
    show IntOp.addi (IntOp.shrsi .vector (lanes (ix2 i l)) 3#32) (BitVec.ofNat 32 (16 * c.val)) = _
    rw [lanes_apply, h]
  exact (gath_apply (extf .f32 (s64 s) bitsLt_bf16_f32) _ i l _ h').trans (s64_apply s _)

theorem wlo_apply (s : FVec Ideal S32x128 .fp8e4m3) (b : IVec S32x128 8) (c : Fin 6) (i : Fin 32) (l : Fin 128) :
    dec (wscl s (BitVec.ofNat 32 (16 * c.val))) (lows (wrd b)) (ix2 i l)
    = rDec (IntOp.andi ((b (ix2 i l)).setWidth 32) 15#32) * s (ix2 i ⟨16 * c.val + l.val / 8, by omega⟩) := by
  obtain ⟨k, t, hb, hn⟩ := nib_low (b (ix2 i l))
  rw [dec_apply, lows_apply, wscl_apply, hb, dec_mul k t _ hn]

theorem whi_apply (s : FVec Ideal S32x128 .fp8e4m3) (b : IVec S32x128 8) (c : Fin 6) (i : Fin 32) (l : Fin 128) :
    dec (wscl s (BitVec.ofNat 32 (16 * c.val))) (highs (wrd b)) (ix2 i l)
    = rDec (IntOp.shrsi .vector ((b (ix2 i l)).setWidth 32) 4#32) * s (ix2 i ⟨16 * c.val + l.val / 8, by omega⟩) := by
  obtain ⟨k, t, hb, hn⟩ := nib_high (b (ix2 i l))
  rw [dec_apply, highs_apply, wscl_apply, hb, dec_mul k t _ hn]

end Cert.KernelIdeal.Gen.Slab
-- ==== Proof.Trip1.lean ====
module

public import proofs.«01_k».proof.Proof.Slab2
public import proofs.«01_k».proof.Proof.Gen.KernelIdeal.Loops

@[expose] public section

set_option maxRecDepth 16384

/-! # One trip of a loop, in the words of a slab -/

noncomputable section

namespace Cert.KernelIdeal.Gen.Slab

open Idealize.ShloMosaic hiding ix0 ix1 ix2 ix3
open Idealize.ShloMosaic.TcCoe Idealize.ShloMosaic.ValueIdx
open Cert.KernelIdeal Cert.KernelIdeal.Gen Nvfp4

/-- A block of 32 rows and 128 columns of the packed weight. -/
abbrev rdw (arg5 : Memref sig .tc .vmem S6144x768 .i8) (X : BufTy.Contents (Elt Ideal) arg5.view.ty) (o : Fin 2 → Nat)
    (h : ∀ a, o a + S32x128.size a ≤ S6144x768.size a) : IVec S32x128 8 :=
  View.readAt (Elt Ideal) arg5.view (Rect.unit (s := S6144x768) o S32x128.size h).toLoadRect X

/-- The 32 rows of the weight's scales, as the kernel reads them back from the padded buffer. -/
abbrev rds (i : grid0.Coords) (arg6 : Memref sig .tc .vmem S6144x96 .fp8e4m3) (arg14 : Memref sig .tc .vmem S32x128 .fp8e4m3)
    (k0_h1 : k0_cond1 i = 1#1) (X : BufTy.Contents (Elt Ideal) arg6.view.ty) (k : Fin k0_t1_loop.trips)
    (f : BufTy.Contents (Elt Ideal) arg14.view.ty) : FVec Ideal S32x128 .fp8e4m3 :=
  View.readAt (Elt Ideal) arg14.view (Rect.unit ![0, 0] S32x128.size inb_S32x128_S32x128_0_0).toLoadRect
    (arg14.view.writes (Elt Ideal) f [⟨Rect.unit (s := S32x128) ![0, 0] S32x96.size inb_S32x128_S32x96_0_0,
      k0_pay9 (F := Ideal) (View.readAt (Elt Ideal) arg6.view (Rect.unit (s := S6144x96) (k0_off1 k) S32x96.size (k0_off1_inb i k k0_h1)).toLoadRect X)⟩])

/-- A slab of the weight's low codes, decoded. -/
def wlo (s : FVec Ideal S32x128 .fp8e4m3) (o : BitVec 32) (b : IVec S32x128 8) : FVec Ideal S32x128 .bf16 :=
  shapeCast S32x128 (dec (wscl s o) (lows (wrd b))) shapeCasts_S32x128_S32x128

/-- A slab of its high codes, decoded. -/
def whi (s : FVec Ideal S32x128 .fp8e4m3) (o : BitVec 32) (b : IVec S32x128 8) : FVec Ideal S32x128 .bf16 :=
  shapeCast S32x128 (dec (wscl s o) (highs (wrd b))) shapeCasts_S32x128_S32x128

/-- What one trip over 32 rows of the weight stores. -/
theorem trip_t1 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (k0_h1 : k0_cond1 i = 1#1) (X_arg5 : BufTy.Contents (Elt Ideal) arg5.view.ty) (X_arg6 : BufTy.Contents (Elt Ideal) arg6.view.ty) (k : Fin k0_t1_loop.trips) (f_arg12 : BufTy.Contents (Elt Ideal) arg12.view.ty) (f_arg14 : BufTy.Contents (Elt Ideal) arg14.view.ty) :
    (tripL_k0_t1 (F:=Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 k f_arg12 f_arg14).1 = [
      ⟨Rect.unit (k0_off19 k) ![32, 128] (k0_off19_inb i k k0_h1), whi (rds i arg6 arg14 k0_h1 X_arg6 k f_arg14) 80#32 (rdw arg5 X_arg5 (k0_off17 k) (k0_off17_inb i k k0_h1))⟩,
      ⟨Rect.unit (k0_off18 k) ![32, 128] (k0_off18_inb i k k0_h1), wlo (rds i arg6 arg14 k0_h1 X_arg6 k f_arg14) 80#32 (rdw arg5 X_arg5 (k0_off17 k) (k0_off17_inb i k k0_h1))⟩,
      ⟨Rect.unit (k0_off16 k) ![32, 128] (k0_off16_inb i k k0_h1), whi (rds i arg6 arg14 k0_h1 X_arg6 k f_arg14) 64#32 (rdw arg5 X_arg5 (k0_off14 k) (k0_off14_inb i k k0_h1))⟩,
      ⟨Rect.unit (k0_off15 k) ![32, 128] (k0_off15_inb i k k0_h1), wlo (rds i arg6 arg14 k0_h1 X_arg6 k f_arg14) 64#32 (rdw arg5 X_arg5 (k0_off14 k) (k0_off14_inb i k k0_h1))⟩,
      ⟨Rect.unit (k0_off13 k) ![32, 128] (k0_off13_inb i k k0_h1), whi (rds i arg6 arg14 k0_h1 X_arg6 k f_arg14) 48#32 (rdw arg5 X_arg5 (k0_off11 k) (k0_off11_inb i k k0_h1))⟩,
      ⟨Rect.unit (k0_off12 k) ![32, 128] (k0_off12_inb i k k0_h1), wlo (rds i arg6 arg14 k0_h1 X_arg6 k f_arg14) 48#32 (rdw arg5 X_arg5 (k0_off11 k) (k0_off11_inb i k k0_h1))⟩,
      ⟨Rect.unit (k0_off10 k) ![32, 128] (k0_off10_inb i k k0_h1), whi (rds i arg6 arg14 k0_h1 X_arg6 k f_arg14) 32#32 (rdw arg5 X_arg5 (k0_off8 k) (k0_off8_inb i k k0_h1))⟩,
      ⟨Rect.unit (k0_off9 k) ![32, 128] (k0_off9_inb i k k0_h1), wlo (rds i arg6 arg14 k0_h1 X_arg6 k f_arg14) 32#32 (rdw arg5 X_arg5 (k0_off8 k) (k0_off8_inb i k k0_h1))⟩,
      ⟨Rect.unit (k0_off7 k) ![32, 128] (k0_off7_inb i k k0_h1), whi (rds i arg6 arg14 k0_h1 X_arg6 k f_arg14) 16#32 (rdw arg5 X_arg5 (k0_off5 k) (k0_off5_inb i k k0_h1))⟩,
      ⟨Rect.unit (k0_off6 k) ![32, 128] (k0_off6_inb i k k0_h1), wlo (rds i arg6 arg14 k0_h1 X_arg6 k f_arg14) 16#32 (rdw arg5 X_arg5 (k0_off5 k) (k0_off5_inb i k k0_h1))⟩,
      ⟨Rect.unit (k0_off4 k) ![32, 128] (k0_off4_inb i k k0_h1), whi (rds i arg6 arg14 k0_h1 X_arg6 k f_arg14) 0#32 (rdw arg5 X_arg5 (k0_off2 k) (k0_off2_inb i k k0_h1))⟩,
      ⟨Rect.unit (k0_off3 k) ![32, 128] (k0_off3_inb i k k0_h1), wlo (rds i arg6 arg14 k0_h1 X_arg6 k f_arg14) 0#32 (rdw arg5 X_arg5 (k0_off2 k) (k0_off2_inb i k k0_h1))⟩] := by
  unfold tripL_k0_t1 trip_k0_t1
  rfl

end Cert.KernelIdeal.Gen.Slab
-- ==== Proof.Trip2.lean ====
module

public import proofs.«01_k».proof.Proof.Slab2
public import proofs.«01_k».proof.Proof.Gen.KernelIdeal.Loops

@[expose] public section

set_option maxRecDepth 16384

/-! # One trip of a loop, in the words of a slab -/

noncomputable section

namespace Cert.KernelIdeal.Gen.Slab

open Idealize.ShloMosaic hiding ix0 ix1 ix2 ix3
open Idealize.ShloMosaic.TcCoe Idealize.ShloMosaic.ValueIdx
open Cert.KernelIdeal Cert.KernelIdeal.Gen Nvfp4

/-- A slab's packed codes. -/
def cds (v0 : EReal) (u0 u1 : FVec Ideal S32x128 .bf16) : IVec S32x128 8 :=
  packed (wrd (byt (rnd (evens u0 u1) (rcp v0 (evens u0 u1) (odds u0 u1)))))
    (wrd (byt (rnd (odds u0 u1) (rcp v0 (evens u0 u1) (odds u0 u1)))))

/-- The scales of a slab's lanes. -/
def scs (v0 : EReal) (u0 u1 : FVec Ideal S32x128 .bf16) : FVec Ideal S32x128 .fp8e4m3 :=
  scl v0 (evens u0 u1) (odds u0 u1)

/-- A slab's even columns, decoded. -/
def dlo (v0 : EReal) (u0 u1 : FVec Ideal S32x128 .bf16) : FVec Ideal S32x128 .bf16 :=
  dec (s64 (scs v0 u0 u1)) (wrd (byt (rnd (evens u0 u1) (rcp v0 (evens u0 u1) (odds u0 u1)))))

/-- A slab's odd columns, decoded. -/
def dhi (v0 : EReal) (u0 u1 : FVec Ideal S32x128 .bf16) : FVec Ideal S32x128 .bf16 :=
  dec (s64 (scs v0 u0 u1)) (wrd (byt (rnd (odds u0 u1) (rcp v0 (evens u0 u1) (odds u0 u1)))))

/-- The scales of the six slabs, gathered, one column to a group. -/
def six (s0 s1 s2 s3 s4 s5 : FVec Ideal S32x128 .fp8e4m3) : FVec Ideal S32x96 .fp8e4m3 :=
  let at' (n : BitVec 32) (a b : FVec Ideal S32x128 .f32) : FVec Ideal S32x128 .f32 :=
    select (cmpi .eq (shrsi lanes (broadcast S32x128 4#32)) (broadcast S32x128 n)) a b
  extractStridedSlice S32x96 ![0, 0] (truncf .fp8e4m3
    (at' 5#32 (cmpct s5) (at' 4#32 (cmpct s4) (at' 3#32 (cmpct s3) (at' 2#32 (cmpct s2) (at' 1#32 (cmpct s1) (cmpct s0))))))
    bitsLt_fp8e4m3_f32) slices_S32x128_o0_0_S32x96

/-- A block of 32 rows and 128 columns of the input. -/
abbrev rdx (arg3 : Memref sig .tc .vmem S256x1536 .bf16) (X : BufTy.Contents (Elt Ideal) arg3.view.ty) (o : Fin 2 → Nat)
    (h : ∀ a, o a + S32x128.size a ≤ S256x1536.size a) : FVec Ideal S32x128 .bf16 :=
  shapeCast S32x128 (View.readAt (Elt Ideal) arg3.view (Rect.unit (s := S256x1536) o S32x128.size h).toLoadRect X)
    shapeCasts_S32x128_S32x128

/-! The values a trip names, in the slab's words. -/

namespace T2

section
variable (arg3 : Memref sig .tc .vmem S256x1536 .bf16) (v0 : Elt Ideal .f32) (X_arg3 : BufTy.Contents (Elt Ideal) arg3.view.ty)
  (k : Fin k0_t2_loop.trips)

theorem e0 : (trip_k0_t2.sl.r arg3 X_arg3 k) = evens (rdx arg3 X_arg3 (k0_off20 k) (k0_off20_inb k)) (rdx arg3 X_arg3 (k0_off21 k) (k0_off21_inb k)) := rfl
theorem o0 : (trip_k0_t2.sl.r_1 arg3 X_arg3 k) = odds (rdx arg3 X_arg3 (k0_off20 k) (k0_off20_inb k)) (rdx arg3 X_arg3 (k0_off21 k) (k0_off21_inb k)) := rfl
theorem s0 : (trip_k0_t2.sl.r_4 arg3 v0 X_arg3 k) = scl v0 (trip_k0_t2.sl.r arg3 X_arg3 k) (trip_k0_t2.sl.r_1 arg3 X_arg3 k) := rfl
theorem c0 : (trip_k0_t2.sl.r_5 arg3 v0 X_arg3 k) = rcp v0 (trip_k0_t2.sl.r arg3 X_arg3 k) (trip_k0_t2.sl.r_1 arg3 X_arg3 k) := rfl
theorem we0 : (trip_k0_t2.sl.r_10 arg3 v0 X_arg3 k) = wrd (byt (rnd (trip_k0_t2.sl.r arg3 X_arg3 k) (trip_k0_t2.sl.r_5 arg3 v0 X_arg3 k))) := rfl
theorem e1 : (trip_k0_t2.sl.r_20 arg3 X_arg3 k) = evens (rdx arg3 X_arg3 (k0_off24 k) (k0_off24_inb k)) (rdx arg3 X_arg3 (k0_off25 k) (k0_off25_inb k)) := rfl
theorem o1 : (trip_k0_t2.sl.r_22 arg3 X_arg3 k) = odds (rdx arg3 X_arg3 (k0_off24 k) (k0_off24_inb k)) (rdx arg3 X_arg3 (k0_off25 k) (k0_off25_inb k)) := rfl
theorem s1 : (trip_k0_t2.sl.r_25 arg3 v0 X_arg3 k) = scl v0 (trip_k0_t2.sl.r_20 arg3 X_arg3 k) (trip_k0_t2.sl.r_22 arg3 X_arg3 k) := rfl
theorem c1 : (trip_k0_t2.sl.r_26 arg3 v0 X_arg3 k) = rcp v0 (trip_k0_t2.sl.r_20 arg3 X_arg3 k) (trip_k0_t2.sl.r_22 arg3 X_arg3 k) := rfl
theorem we1 : (trip_k0_t2.sl.r_33 arg3 v0 X_arg3 k) = wrd (byt (rnd (trip_k0_t2.sl.r_20 arg3 X_arg3 k) (trip_k0_t2.sl.r_26 arg3 v0 X_arg3 k))) := rfl
theorem e2 : (trip_k0_t2.sl.r_45 arg3 X_arg3 k) = evens (rdx arg3 X_arg3 (k0_off28 k) (k0_off28_inb k)) (rdx arg3 X_arg3 (k0_off29 k) (k0_off29_inb k)) := rfl
theorem o2 : (trip_k0_t2.sl.r_46 arg3 X_arg3 k) = odds (rdx arg3 X_arg3 (k0_off28 k) (k0_off28_inb k)) (rdx arg3 X_arg3 (k0_off29 k) (k0_off29_inb k)) := rfl
theorem s2 : (trip_k0_t2.sl.r_48 arg3 v0 X_arg3 k) = scl v0 (trip_k0_t2.sl.r_45 arg3 X_arg3 k) (trip_k0_t2.sl.r_46 arg3 X_arg3 k) := rfl
theorem c2 : (trip_k0_t2.sl.r_49 arg3 v0 X_arg3 k) = rcp v0 (trip_k0_t2.sl.r_45 arg3 X_arg3 k) (trip_k0_t2.sl.r_46 arg3 X_arg3 k) := rfl
theorem we2 : (trip_k0_t2.sl.r_55 arg3 v0 X_arg3 k) = wrd (byt (rnd (trip_k0_t2.sl.r_45 arg3 X_arg3 k) (trip_k0_t2.sl.r_49 arg3 v0 X_arg3 k))) := rfl
theorem wo2 : (trip_k0_t2.sl.r_59 arg3 v0 X_arg3 k) = wrd (byt (rnd (trip_k0_t2.sl.r_46 arg3 X_arg3 k) (trip_k0_t2.sl.r_49 arg3 v0 X_arg3 k))) := rfl
theorem e3 : (trip_k0_t2.sl.r_64 arg3 X_arg3 k) = evens (rdx arg3 X_arg3 (k0_off23 k) (k0_off23_inb k)) (rdx arg3 X_arg3 (k0_off27 k) (k0_off27_inb k)) := rfl
theorem o3 : (trip_k0_t2.sl.r_65 arg3 X_arg3 k) = odds (rdx arg3 X_arg3 (k0_off23 k) (k0_off23_inb k)) (rdx arg3 X_arg3 (k0_off27 k) (k0_off27_inb k)) := rfl
theorem s3 : (trip_k0_t2.sl.r_67 arg3 v0 X_arg3 k) = scl v0 (trip_k0_t2.sl.r_64 arg3 X_arg3 k) (trip_k0_t2.sl.r_65 arg3 X_arg3 k) := rfl
theorem c3 : (trip_k0_t2.sl.r_68 arg3 v0 X_arg3 k) = rcp v0 (trip_k0_t2.sl.r_64 arg3 X_arg3 k) (trip_k0_t2.sl.r_65 arg3 X_arg3 k) := rfl
theorem we3 : (trip_k0_t2.sl.r_71 arg3 v0 X_arg3 k) = wrd (byt (rnd (trip_k0_t2.sl.r_64 arg3 X_arg3 k) (trip_k0_t2.sl.r_68 arg3 v0 X_arg3 k))) := rfl
theorem wo3 : (trip_k0_t2.sl.r_74 arg3 v0 X_arg3 k) = wrd (byt (rnd (trip_k0_t2.sl.r_65 arg3 X_arg3 k) (trip_k0_t2.sl.r_68 arg3 v0 X_arg3 k))) := rfl
theorem e4 : (trip_k0_t2.sl.r_79 arg3 X_arg3 k) = evens (rdx arg3 X_arg3 (k0_off31 k) (k0_off31_inb k)) (rdx arg3 X_arg3 (k0_off33 k) (k0_off33_inb k)) := rfl
theorem o4 : (trip_k0_t2.sl.r_80 arg3 X_arg3 k) = odds (rdx arg3 X_arg3 (k0_off31 k) (k0_off31_inb k)) (rdx arg3 X_arg3 (k0_off33 k) (k0_off33_inb k)) := rfl
theorem s4 : (trip_k0_t2.sl.r_82 arg3 v0 X_arg3 k) = scl v0 (trip_k0_t2.sl.r_79 arg3 X_arg3 k) (trip_k0_t2.sl.r_80 arg3 X_arg3 k) := rfl
theorem c4 : (trip_k0_t2.sl.r_83 arg3 v0 X_arg3 k) = rcp v0 (trip_k0_t2.sl.r_79 arg3 X_arg3 k) (trip_k0_t2.sl.r_80 arg3 X_arg3 k) := rfl
theorem we4 : (trip_k0_t2.sl.r_86 arg3 v0 X_arg3 k) = wrd (byt (rnd (trip_k0_t2.sl.r_79 arg3 X_arg3 k) (trip_k0_t2.sl.r_83 arg3 v0 X_arg3 k))) := rfl
theorem wo4 : (trip_k0_t2.sl.r_90 arg3 v0 X_arg3 k) = wrd (byt (rnd (trip_k0_t2.sl.r_80 arg3 X_arg3 k) (trip_k0_t2.sl.r_83 arg3 v0 X_arg3 k))) := rfl
theorem e5 : (trip_k0_t2.sl.r_94 arg3 X_arg3 k) = evens (rdx arg3 X_arg3 (k0_off35 k) (k0_off35_inb k)) (rdx arg3 X_arg3 (k0_off36 k) (k0_off36_inb k)) := rfl
theorem o5 : (trip_k0_t2.sl.r_95 arg3 X_arg3 k) = odds (rdx arg3 X_arg3 (k0_off35 k) (k0_off35_inb k)) (rdx arg3 X_arg3 (k0_off36 k) (k0_off36_inb k)) := rfl
theorem s5 : (trip_k0_t2.sl.r_97 arg3 v0 X_arg3 k) = scl v0 (trip_k0_t2.sl.r_94 arg3 X_arg3 k) (trip_k0_t2.sl.r_95 arg3 X_arg3 k) := rfl
theorem c5 : (trip_k0_t2.sl.r_98 arg3 v0 X_arg3 k) = rcp v0 (trip_k0_t2.sl.r_94 arg3 X_arg3 k) (trip_k0_t2.sl.r_95 arg3 X_arg3 k) := rfl
theorem we5 : (trip_k0_t2.sl.r_102 arg3 v0 X_arg3 k) = wrd (byt (rnd (trip_k0_t2.sl.r_94 arg3 X_arg3 k) (trip_k0_t2.sl.r_98 arg3 v0 X_arg3 k))) := rfl
theorem wo5 : (trip_k0_t2.sl.r_106 arg3 v0 X_arg3 k) = wrd (byt (rnd (trip_k0_t2.sl.r_95 arg3 X_arg3 k) (trip_k0_t2.sl.r_98 arg3 v0 X_arg3 k))) := rfl
theorem p0 : k0_pay66 (trip_k0_t2.sl.r_10 arg3 v0 X_arg3 k) (trip_k0_t2.sl.r_11 arg3 v0 X_arg3 k) (trip_k0_t2.sl.r_12 arg3 v0 X_arg3 k) (trip_k0_t2.sl.r_13 arg3 v0 X_arg3 k) (trip_k0_t2.sl.r_14 arg3 v0 X_arg3 k) (trip_k0_t2.sl.r_15 arg3 v0 X_arg3 k) (trip_k0_t2.sl.r_16 arg3 v0 X_arg3 k) k0_pay64 = packed (trip_k0_t2.sl.r_10 arg3 v0 X_arg3 k) (wrd (byt (rnd (trip_k0_t2.sl.r_1 arg3 X_arg3 k) (trip_k0_t2.sl.r_5 arg3 v0 X_arg3 k)))) := rfl
theorem l0 : k0_pay70 (trip_k0_t2.sl.r_17 arg3 v0 X_arg3 k) = shapeCast S32x128 (dec (s64 (trip_k0_t2.sl.r_4 arg3 v0 X_arg3 k)) (trip_k0_t2.sl.r_10 arg3 v0 X_arg3 k)) shapeCasts_S32x128_S32x128 := rfl
theorem h0 : k0_pay71 (trip_k0_t2.sl.r_18 arg3 v0 X_arg3 k) = shapeCast S32x128 (dec (s64 (trip_k0_t2.sl.r_4 arg3 v0 X_arg3 k)) (wrd (byt (rnd (trip_k0_t2.sl.r_1 arg3 X_arg3 k) (trip_k0_t2.sl.r_5 arg3 v0 X_arg3 k))))) shapeCasts_S32x128_S32x128 := rfl
theorem p1 : k0_pay97 (trip_k0_t2.sl.r_33 arg3 v0 X_arg3 k) (trip_k0_t2.sl.r_34 arg3 v0 X_arg3 k) (trip_k0_t2.sl.r_35 arg3 v0 X_arg3 k) (trip_k0_t2.sl.r_36 arg3 v0 X_arg3 k) (trip_k0_t2.sl.r_37 arg3 v0 X_arg3 k) (trip_k0_t2.sl.r_38 arg3 v0 X_arg3 k) (trip_k0_t2.sl.r_39 arg3 v0 X_arg3 k) trip_k0_t2.sl.cst_131 = packed (trip_k0_t2.sl.r_33 arg3 v0 X_arg3 k) (wrd (byt (rnd (trip_k0_t2.sl.r_22 arg3 X_arg3 k) (trip_k0_t2.sl.r_26 arg3 v0 X_arg3 k)))) := rfl
theorem l1 : k0_pay101 (trip_k0_t2.sl.r_40 arg3 v0 X_arg3 k) = shapeCast S32x128 (dec (s64 (trip_k0_t2.sl.r_25 arg3 v0 X_arg3 k)) (trip_k0_t2.sl.r_33 arg3 v0 X_arg3 k)) shapeCasts_S32x128_S32x128 := rfl
theorem h1 : k0_pay102 (trip_k0_t2.sl.r_41 arg3 v0 X_arg3 k) = shapeCast S32x128 (dec (s64 (trip_k0_t2.sl.r_25 arg3 v0 X_arg3 k)) (wrd (byt (rnd (trip_k0_t2.sl.r_22 arg3 X_arg3 k) (trip_k0_t2.sl.r_26 arg3 v0 X_arg3 k))))) shapeCasts_S32x128_S32x128 := rfl
theorem p2 : k0_pay125 (trip_k0_t2.sl.r_55 arg3 v0 X_arg3 k) (trip_k0_t2.sl.r_56 arg3 v0 X_arg3 k) (trip_k0_t2.sl.r_57 arg3 v0 X_arg3 k) (trip_k0_t2.sl.r_58 arg3 v0 X_arg3 k) k0_pay123 = packed (trip_k0_t2.sl.r_55 arg3 v0 X_arg3 k) (trip_k0_t2.sl.r_59 arg3 v0 X_arg3 k) := rfl
theorem l2 : k0_pay129 (trip_k0_t2.sl.r_55 arg3 v0 X_arg3 k) (trip_k0_t2.sl.r_60 arg3 v0 X_arg3 k) k0_pay127 = shapeCast S32x128 (dec (s64 (trip_k0_t2.sl.r_48 arg3 v0 X_arg3 k)) (trip_k0_t2.sl.r_55 arg3 v0 X_arg3 k)) shapeCasts_S32x128_S32x128 := rfl
theorem h2 : k0_pay130 (trip_k0_t2.sl.r_59 arg3 v0 X_arg3 k) (trip_k0_t2.sl.r_60 arg3 v0 X_arg3 k) k0_pay127 = shapeCast S32x128 (dec (s64 (trip_k0_t2.sl.r_48 arg3 v0 X_arg3 k)) (trip_k0_t2.sl.r_59 arg3 v0 X_arg3 k)) shapeCasts_S32x128_S32x128 := rfl
theorem p3 : k0_pay151 (trip_k0_t2.sl.r_75 arg3 v0 X_arg3 k) = packed (trip_k0_t2.sl.r_71 arg3 v0 X_arg3 k) (trip_k0_t2.sl.r_74 arg3 v0 X_arg3 k) := rfl
theorem l3 : k0_pay153 (trip_k0_t2.sl.r_67 arg3 v0 X_arg3 k) (trip_k0_t2.sl.r_71 arg3 v0 X_arg3 k) = shapeCast S32x128 (dec (s64 (trip_k0_t2.sl.r_67 arg3 v0 X_arg3 k)) (trip_k0_t2.sl.r_71 arg3 v0 X_arg3 k)) shapeCasts_S32x128_S32x128 := rfl
theorem h3 : k0_pay154 (trip_k0_t2.sl.r_67 arg3 v0 X_arg3 k) (trip_k0_t2.sl.r_74 arg3 v0 X_arg3 k) = shapeCast S32x128 (dec (s64 (trip_k0_t2.sl.r_67 arg3 v0 X_arg3 k)) (trip_k0_t2.sl.r_74 arg3 v0 X_arg3 k)) shapeCasts_S32x128_S32x128 := rfl
theorem p4 : k0_pay178 (trip_k0_t2.sl.r_90 arg3 v0 X_arg3 k) (trip_k0_t2.sl.r_91 arg3 v0 X_arg3 k) (trip_k0_t2.sl.r_92 arg3 v0 X_arg3 k) = packed (trip_k0_t2.sl.r_86 arg3 v0 X_arg3 k) (trip_k0_t2.sl.r_90 arg3 v0 X_arg3 k) := rfl
theorem l4 : k0_pay180 (trip_k0_t2.sl.r_82 arg3 v0 X_arg3 k) (trip_k0_t2.sl.r_86 arg3 v0 X_arg3 k) = shapeCast S32x128 (dec (s64 (trip_k0_t2.sl.r_82 arg3 v0 X_arg3 k)) (trip_k0_t2.sl.r_86 arg3 v0 X_arg3 k)) shapeCasts_S32x128_S32x128 := rfl
theorem h4 : k0_pay181 (trip_k0_t2.sl.r_82 arg3 v0 X_arg3 k) (trip_k0_t2.sl.r_90 arg3 v0 X_arg3 k) = shapeCast S32x128 (dec (s64 (trip_k0_t2.sl.r_82 arg3 v0 X_arg3 k)) (trip_k0_t2.sl.r_90 arg3 v0 X_arg3 k)) shapeCasts_S32x128_S32x128 := rfl
theorem p5 : k0_pay205 (trip_k0_t2.sl.r_102 arg3 v0 X_arg3 k) (trip_k0_t2.sl.r_106 arg3 v0 X_arg3 k) (trip_k0_t2.sl.r_107 arg3 v0 X_arg3 k) k0_pay204 = packed (trip_k0_t2.sl.r_102 arg3 v0 X_arg3 k) (trip_k0_t2.sl.r_106 arg3 v0 X_arg3 k) := rfl
theorem l5 : k0_pay207 (trip_k0_t2.sl.r_97 arg3 v0 X_arg3 k) (trip_k0_t2.sl.r_102 arg3 v0 X_arg3 k) = shapeCast S32x128 (dec (s64 (trip_k0_t2.sl.r_97 arg3 v0 X_arg3 k)) (trip_k0_t2.sl.r_102 arg3 v0 X_arg3 k)) shapeCasts_S32x128_S32x128 := rfl
theorem h5 : k0_pay208 (trip_k0_t2.sl.r_97 arg3 v0 X_arg3 k) (trip_k0_t2.sl.r_106 arg3 v0 X_arg3 k) = shapeCast S32x128 (dec (s64 (trip_k0_t2.sl.r_97 arg3 v0 X_arg3 k)) (trip_k0_t2.sl.r_106 arg3 v0 X_arg3 k)) shapeCasts_S32x128_S32x128 := rfl
theorem q : k0_pay7 trip_k0_t2.sl.v20 (trip_k0_t2.sl.r_93 arg3 v0 X_arg3 k) (trip_k0_t2.sl.r_108 arg3 v0 X_arg3 k) = six (trip_k0_t2.sl.r_4 arg3 v0 X_arg3 k) (trip_k0_t2.sl.r_25 arg3 v0 X_arg3 k) (trip_k0_t2.sl.r_48 arg3 v0 X_arg3 k) (trip_k0_t2.sl.r_67 arg3 v0 X_arg3 k) (trip_k0_t2.sl.r_82 arg3 v0 X_arg3 k) (trip_k0_t2.sl.r_97 arg3 v0 X_arg3 k) := rfl

end

end T2

/-- What one trip over 32 rows stores. -/
theorem trip_t2 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (v0 : Elt Ideal .f32) (X_arg3 : BufTy.Contents (Elt Ideal) arg3.view.ty) (k : Fin k0_t2_loop.trips) :
    tripL_k0_t2 (F:=Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k = (
    [
      ⟨Rect.unit (k0_off37 k) ![32, 128] (k0_off37_inb k), cds v0 (rdx arg3 X_arg3 (k0_off35 k) (k0_off35_inb k)) (rdx arg3 X_arg3 (k0_off36 k) (k0_off36_inb k))⟩,
      ⟨Rect.unit (k0_off34 k) ![32, 128] (k0_off34_inb k), cds v0 (rdx arg3 X_arg3 (k0_off31 k) (k0_off31_inb k)) (rdx arg3 X_arg3 (k0_off33 k) (k0_off33_inb k))⟩,
      ⟨Rect.unit (k0_off32 k) ![32, 128] (k0_off32_inb k), cds v0 (rdx arg3 X_arg3 (k0_off23 k) (k0_off23_inb k)) (rdx arg3 X_arg3 (k0_off27 k) (k0_off27_inb k))⟩,
      ⟨Rect.unit (k0_off30 k) ![32, 128] (k0_off30_inb k), cds v0 (rdx arg3 X_arg3 (k0_off28 k) (k0_off28_inb k)) (rdx arg3 X_arg3 (k0_off29 k) (k0_off29_inb k))⟩,
      ⟨Rect.unit (k0_off26 k) ![32, 128] (k0_off26_inb k), cds v0 (rdx arg3 X_arg3 (k0_off24 k) (k0_off24_inb k)) (rdx arg3 X_arg3 (k0_off25 k) (k0_off25_inb k))⟩,
      ⟨Rect.unit (k0_off22 k) ![32, 128] (k0_off22_inb k), cds v0 (rdx arg3 X_arg3 (k0_off20 k) (k0_off20_inb k)) (rdx arg3 X_arg3 (k0_off21 k) (k0_off21_inb k))⟩],
    [⟨Rect.unit (k0_off38 k) ![32, 96] (k0_off38_inb k), six (scs v0 (rdx arg3 X_arg3 (k0_off20 k) (k0_off20_inb k)) (rdx arg3 X_arg3 (k0_off21 k) (k0_off21_inb k)))
        (scs v0 (rdx arg3 X_arg3 (k0_off24 k) (k0_off24_inb k)) (rdx arg3 X_arg3 (k0_off25 k) (k0_off25_inb k)))
        (scs v0 (rdx arg3 X_arg3 (k0_off28 k) (k0_off28_inb k)) (rdx arg3 X_arg3 (k0_off29 k) (k0_off29_inb k)))
        (scs v0 (rdx arg3 X_arg3 (k0_off23 k) (k0_off23_inb k)) (rdx arg3 X_arg3 (k0_off27 k) (k0_off27_inb k)))
        (scs v0 (rdx arg3 X_arg3 (k0_off31 k) (k0_off31_inb k)) (rdx arg3 X_arg3 (k0_off33 k) (k0_off33_inb k)))
        (scs v0 (rdx arg3 X_arg3 (k0_off35 k) (k0_off35_inb k)) (rdx arg3 X_arg3 (k0_off36 k) (k0_off36_inb k)))⟩],
    [
      ⟨Rect.unit (k0_off36 k) ![32, 128] (k0_off36_inb k), (shapeCast S32x128 (dhi v0 (rdx arg3 X_arg3 (k0_off35 k) (k0_off35_inb k)) (rdx arg3 X_arg3 (k0_off36 k) (k0_off36_inb k))) shapeCasts_S32x128_S32x128)⟩,
      ⟨Rect.unit (k0_off29 k) ![32, 128] (k0_off29_inb k), (shapeCast S32x128 (dlo v0 (rdx arg3 X_arg3 (k0_off35 k) (k0_off35_inb k)) (rdx arg3 X_arg3 (k0_off36 k) (k0_off36_inb k))) shapeCasts_S32x128_S32x128)⟩,
      ⟨Rect.unit (k0_off35 k) ![32, 128] (k0_off35_inb k), (shapeCast S32x128 (dhi v0 (rdx arg3 X_arg3 (k0_off31 k) (k0_off31_inb k)) (rdx arg3 X_arg3 (k0_off33 k) (k0_off33_inb k))) shapeCasts_S32x128_S32x128)⟩,
      ⟨Rect.unit (k0_off28 k) ![32, 128] (k0_off28_inb k), (shapeCast S32x128 (dlo v0 (rdx arg3 X_arg3 (k0_off31 k) (k0_off31_inb k)) (rdx arg3 X_arg3 (k0_off33 k) (k0_off33_inb k))) shapeCasts_S32x128_S32x128)⟩,
      ⟨Rect.unit (k0_off33 k) ![32, 128] (k0_off33_inb k), (shapeCast S32x128 (dhi v0 (rdx arg3 X_arg3 (k0_off23 k) (k0_off23_inb k)) (rdx arg3 X_arg3 (k0_off27 k) (k0_off27_inb k))) shapeCasts_S32x128_S32x128)⟩,
      ⟨Rect.unit (k0_off25 k) ![32, 128] (k0_off25_inb k), (shapeCast S32x128 (dlo v0 (rdx arg3 X_arg3 (k0_off23 k) (k0_off23_inb k)) (rdx arg3 X_arg3 (k0_off27 k) (k0_off27_inb k))) shapeCasts_S32x128_S32x128)⟩,
      ⟨Rect.unit (k0_off31 k) ![32, 128] (k0_off31_inb k), (shapeCast S32x128 (dhi v0 (rdx arg3 X_arg3 (k0_off28 k) (k0_off28_inb k)) (rdx arg3 X_arg3 (k0_off29 k) (k0_off29_inb k))) shapeCasts_S32x128_S32x128)⟩,
      ⟨Rect.unit (k0_off24 k) ![32, 128] (k0_off24_inb k), (shapeCast S32x128 (dlo v0 (rdx arg3 X_arg3 (k0_off28 k) (k0_off28_inb k)) (rdx arg3 X_arg3 (k0_off29 k) (k0_off29_inb k))) shapeCasts_S32x128_S32x128)⟩,
      ⟨Rect.unit (k0_off27 k) ![32, 128] (k0_off27_inb k), (shapeCast S32x128 (dhi v0 (rdx arg3 X_arg3 (k0_off24 k) (k0_off24_inb k)) (rdx arg3 X_arg3 (k0_off25 k) (k0_off25_inb k))) shapeCasts_S32x128_S32x128)⟩,
      ⟨Rect.unit (k0_off21 k) ![32, 128] (k0_off21_inb k), (shapeCast S32x128 (dlo v0 (rdx arg3 X_arg3 (k0_off24 k) (k0_off24_inb k)) (rdx arg3 X_arg3 (k0_off25 k) (k0_off25_inb k))) shapeCasts_S32x128_S32x128)⟩,
      ⟨Rect.unit (k0_off23 k) ![32, 128] (k0_off23_inb k), (shapeCast S32x128 (dhi v0 (rdx arg3 X_arg3 (k0_off20 k) (k0_off20_inb k)) (rdx arg3 X_arg3 (k0_off21 k) (k0_off21_inb k))) shapeCasts_S32x128_S32x128)⟩,
      ⟨Rect.unit (k0_off20 k) ![32, 128] (k0_off20_inb k), (shapeCast S32x128 (dlo v0 (rdx arg3 X_arg3 (k0_off20 k) (k0_off20_inb k)) (rdx arg3 X_arg3 (k0_off21 k) (k0_off21_inb k))) shapeCasts_S32x128_S32x128)⟩]) := by
  unfold tripL_k0_t2 trip_k0_t2
  dsimp only
  rw [T2.p0, T2.l0, T2.h0, T2.p1, T2.l1, T2.h1, T2.p2, T2.l2, T2.h2, T2.p3, T2.l3, T2.h3, T2.p4, T2.l4, T2.h4, T2.p5, T2.l5, T2.h5, T2.q, T2.we0, T2.we1, T2.we2, T2.we3, T2.we4, T2.we5, T2.wo2, T2.wo3, T2.wo4, T2.wo5, T2.c0, T2.c1, T2.c2, T2.c3, T2.c4, T2.c5, T2.s0, T2.s1, T2.s2, T2.s3, T2.s4, T2.s5, T2.e0, T2.o0, T2.e1, T2.o1, T2.e2, T2.o2, T2.e3, T2.o3, T2.e4, T2.o4, T2.e5, T2.o5]
  rfl

end Cert.KernelIdeal.Gen.Slab
-- ==== Proof.Spec.lean ====
module

public import proofs.«01_k».proof.Proof.Trip1
public import proofs.«01_k».proof.Proof.Trip2

@[expose] public section

/-! # A row, quantized

What both programs compute of one row of 1536 values: the scale of each group of 16, the codes, the
decoded values. -/

noncomputable section

namespace Nvfp4

open Idealize.ShloMosaic hiding ix0 ix1 ix2 ix3
open Idealize.ShloMosaic.TcCoe Idealize.ShloMosaic.ValueIdx
open Cert.KernelIdeal Cert.KernelIdeal.Gen Cert.KernelIdeal.Gen.Slab

/-- The largest magnitude of group `q`. -/
def grp (x : Fin 1536 → EReal) (q : Fin 96) : EReal := Finset.univ.sup fun n : Fin 16 => mg (x ⟨16 * q.val + n.val, by omega⟩)

/-- The scale of group `q`. -/
def sclS (g : EReal) (x : Fin 1536 → EReal) (q : Fin 96) : EReal := scaleOf (grp x q) (c32 0x40C00000#32 * g)

/-- The code of column `j`. -/
def codeS (g : EReal) (x : Fin 1536 → EReal) (j : Fin 1536) : BitVec 32 :=
  code g (sclS g x ⟨j.val / 16, by omega⟩) (x j)

/-- The byte holding the codes of columns `2 b` and `2 b + 1`. -/
def packS (g : EReal) (x : Fin 1536 → EReal) (b : Fin 768) : BitVec 8 :=
  rPack (codeS g x ⟨2 * b.val, by omega⟩) (codeS g x ⟨2 * b.val + 1, by omega⟩)

/-- Column `j`, decoded. -/
def deqS (g : EReal) (x : Fin 1536 → EReal) (j : Fin 1536) : EReal :=
  rDec (codeS g x j) * sclS g x ⟨j.val / 16, by omega⟩

/-- Column `j` of a row given by its packed codes and its scales. -/
def decS (w : Fin 768 → BitVec 8) (s : Fin 96 → EReal) (j : Fin 1536) : EReal :=
  rDec (if j.val % 2 = 0 then IntOp.andi ((w ⟨j.val / 2, by omega⟩).setWidth 32) 15#32
    else IntOp.shrsi .vector ((w ⟨j.val / 2, by omega⟩).setWidth 32) 4#32) * s ⟨j.val / 16, by omega⟩

/-- The column the kernel keeps at place `k` of its decoded rows: even columns first, then odd ones. -/
def kcol (k : Fin 1536) : Fin 1536 :=
  if h : k.val < 768 then ⟨2 * k.val, by omega⟩ else ⟨2 * (k.val - 768) + 1, by omega⟩

theorem kcol_lo (b : Fin 768) : kcol ⟨b.val, by omega⟩ = ⟨2 * b.val, by omega⟩ := by
  unfold kcol; rw [dif_pos b.isLt]

theorem kcol_hi (b : Fin 768) : kcol ⟨768 + b.val, by omega⟩ = ⟨2 * b.val + 1, by omega⟩ := by
  unfold kcol; rw [dif_neg (by simp)]; exact Fin.ext (by simp)

theorem kcol_bij : Function.Bijective kcol := by
  refine (Finite.injective_iff_bijective).mp fun a b h => ?_
  unfold kcol at h
  split at h <;> split at h <;> (have := congrArg Fin.val h; simp only at this; exact Fin.ext (by omega))

/-! ## Slab by slab -/

/-- The columns of slab `c`. -/
def slabOf (x : Fin 1536 → EReal) (c : Fin 6) (m : Fin 256) : EReal := x ⟨256 * c.val + m.val, by omega⟩

theorem top_slab (x : Fin 1536 → EReal) (c : Fin 6) (q : Fin 16) : top (slabOf x c) q = grp x ⟨16 * c.val + q.val, by omega⟩ := by
  unfold top grp slabOf
  refine Finset.sup_congr rfl fun n _ => ?_
  congr 2
  exact Fin.ext (by show 256 * c.val + (16 * q.val + n.val) = 16 * (16 * c.val + q.val) + n.val; omega)

section
variable {u0 u1 : S32x128.Idx → EReal} {i : Fin 32} {x : Fin 1536 → EReal} {c : Fin 6} (hx : Holds u0 u1 i (slabOf x c)) {g : EReal}

include hx in
theorem scs_row (q : Fin 16) (p : Fin 8) : scs g u0 u1 (ix2 i (L q p)) = sclS g x ⟨16 * c.val + q.val, by omega⟩ := by
  unfold scs sclS
  rw [scl_L hx, top_slab]

theorem code_row (q : Fin 16) (n : Fin 16) :
    code g (scaleOf (top (slabOf x c) q) (c32 0x40C00000#32 * g)) (slabOf x c ⟨16 * q.val + n.val, by omega⟩)
      = codeS g x ⟨256 * c.val + (16 * q.val + n.val), by omega⟩ := by
  unfold codeS sclS
  rw [top_slab]
  have e : (⟨(256 * c.val + (16 * q.val + n.val)) / 16, by omega⟩ : Fin 96) = ⟨16 * c.val + q.val, by omega⟩ := Fin.ext (by show (256 * c.val + (16 * q.val + n.val)) / 16 = 16 * c.val + q.val; omega)
  rw [e]
  rfl

variable (hg : g ≠ 0)
include hx hg

theorem cds_row (l : Fin 128) : cds g u0 u1 (ix2 i l) = packS g x ⟨128 * c.val + l.val, by omega⟩ := by
  obtain ⟨q, p, rfl⟩ := exists_L l
  unfold cds
  rw [packed_L hx hg]
  have h0 := code_row (x := x) (c := c) (g := g) q ⟨2 * p.val, by omega⟩
  have h1 := code_row (x := x) (c := c) (g := g) q ⟨2 * p.val + 1, by omega⟩
  rw [h0, h1]
  unfold packS
  congr 2 <;> exact Fin.ext (by simp only [L]; omega)

theorem dlo_row (l : Fin 128) : dlo g u0 u1 (ix2 i l) = deqS g x ⟨2 * (128 * c.val + l.val), by omega⟩ := by
  obtain ⟨q, p, rfl⟩ := exists_L l
  unfold dlo
  rw [show scs g u0 u1 = scl g (evens u0 u1) (odds u0 u1) from rfl, dec_L hx hg, evens_L hx,
    code_row (x := x) (c := c) (g := g) q ⟨2 * p.val, by omega⟩, top_slab]
  unfold deqS sclS
  congr 2
  · congr 1; exact Fin.ext (by simp only [L]; omega)
  · congr 1; exact Fin.ext (by simp only [L]; omega)

theorem dhi_row (l : Fin 128) : dhi g u0 u1 (ix2 i l) = deqS g x ⟨2 * (128 * c.val + l.val) + 1, by omega⟩ := by
  obtain ⟨q, p, rfl⟩ := exists_L l
  unfold dhi
  rw [show scs g u0 u1 = scl g (evens u0 u1) (odds u0 u1) from rfl, dec_L hx hg, odds_L hx,
    code_row (x := x) (c := c) (g := g) q ⟨2 * p.val + 1, by omega⟩, top_slab]
  unfold deqS sclS
  congr 2
  · congr 1; exact Fin.ext (by simp only [L]; omega)
  · congr 1; exact Fin.ext (by simp only [L]; omega)

end

/-! ## The six slabs' scales, gathered -/

/-- Lane `l` of the gathered scales comes of slab `l / 16`. -/
theorem six_apply (s : Fin 6 → FVec Ideal S32x128 .fp8e4m3) (i : Fin 32) (l : Fin 96) :
    six (s 0) (s 1) (s 2) (s 3) (s 4) (s 5) (ix2 i l)
      = s ⟨l.val / 16, by omega⟩ (ix2 i (L ⟨l.val % 16, by omega⟩ 0)) := by
  have hsel : ∀ (n : Fin 6) (l : Fin 128), (IntOp.cmpi .eq (IntOp.shrsi .vector (BitVec.ofNat 32 l.val) 4#32) (BitVec.ofNat 32 n.val) : BitVec 1)
      = if l.val / 16 = n.val then 1 else 0 := by decide +kernel
  have hat : ∀ (n : Fin 6) (m : BitVec 32), m = BitVec.ofNat 32 n.val → ∀ (a b : FVec Ideal S32x128 .f32) (l : Fin 128),
      select (cmpi .eq (shrsi lanes (broadcast S32x128 4#32)) (broadcast S32x128 m)) a b (ix2 i l)
        = if l.val / 16 = n.val then a (ix2 i l) else b (ix2 i l) := by
    rintro n _ rfl a b l
    show Scalar.select (IntOp.cmpi .eq (IntOp.shrsi .vector (lanes (ix2 i l)) 4#32) (BitVec.ofNat 32 n.val)) _ _ = _
    rw [lanes_apply, hsel]
    unfold Scalar.select
    by_cases h : l.val / 16 = n.val
    · rw [if_pos h, if_pos h]; rfl
    · rw [if_neg h, if_neg h]; rfl
  unfold six
  dsimp only
  refine (extractStridedSlice_apply _ _ _ _ (ix2 i (⟨l.val, by omega⟩ : Fin 128)) (fun a => match a with
    | ⟨0, _⟩ => (Nat.zero_add _).symm | ⟨1, _⟩ => (Nat.zero_add _).symm)).trans ?_
  refine (hat 5 5#32 rfl _ _ _).trans ?_
  rw [hat 4 4#32 rfl _ _ _]
  rw [hat 3 3#32 rfl _ _ _]
  rw [hat 2 2#32 rfl _ _ _]
  rw [hat 1 1#32 rfl _ _ _]
  simp only [cmpct_apply]
  have hl : l.val / 16 < 6 := by omega
  show (if l.val / 16 = 5 then _ else if l.val / 16 = 4 then _ else if l.val / 16 = 3 then _ else if l.val / 16 = 2 then _
    else if l.val / 16 = 1 then _ else _) = _
  have hc : ∀ n : Fin 6, l.val / 16 = n.val → s ⟨l.val / 16, hl⟩ = s n := fun n h => congrArg s (Fin.ext h)
  split_ifs with h5 h4 h3 h2 h1
  · rw [hc 5 h5]
  · rw [hc 4 h4]
  · rw [hc 3 h3]
  · rw [hc 2 h2]
  · rw [hc 1 h1]
  · rw [hc 0 (by show l.val / 16 = 0; omega)]

end Nvfp4
-- ==== Proof.Rects.lean ====
module

public import Idealize.ShloMosaic.Lib.ValueIdx
public import Idealize.ShloMosaic.Lib.Pipeline.FrameBody

@[expose] public section

/-! # Blocks of a matrix, by row and column -/

noncomputable section

namespace Nvfp4

open Idealize.ShloMosaic
open Idealize.ShloMosaic.TcCoe Idealize.ShloMosaic.ValueIdx

/-- Where a block's entry lies in the matrix. -/
theorem emb_unit {a b c d : ℕ} {off : Fin 2 → ℕ} (h) {o0 o1 : ℕ} (ho : off = ![o0, o1]) (i : Fin c) (l : Fin d)
    (r : Fin a) (k : Fin b) (hr : r.val = o0 + i.val) (hk : k.val = o1 + l.val) :
    (Rect.unit (s := ⟨2, ![a, b]⟩) off ![c, d] h).emb (ix2 i l) = ix2 r k := by
  subst ho
  funext x
  match x with
  | ⟨0, _⟩ => exact Fin.ext (by show o0 + 1 * i.val = r.val; omega)
  | ⟨1, _⟩ => exact Fin.ext (by show o1 + 1 * l.val = k.val; omega)

/-- What a load of a block reads. -/
theorem readAt_unit {sig : RefSig} {κ : Kind} {sp : Space} {e : EltTy} {a b c d : ℕ} (v : View sig κ sp ⟨2, ![a, b]⟩ e)
    (Val : EltTy → Type) (f : BufTy.Contents Val v.ty) {off : Fin 2 → ℕ} (h) {o0 o1 : ℕ} (ho : off = ![o0, o1]) (i : Fin c) (l : Fin d)
    (r : Fin a) (k : Fin b) (hr : r.val = o0 + i.val) (hk : k.val = o1 + l.val) :
    v.readAt Val (Rect.unit (s := ⟨2, ![a, b]⟩) off ![c, d] h).toLoadRect f (ix2 i l) = v.read Val f (ix2 r k) := by
  rw [← emb_unit h ho i l r k hr hk]
  rfl

/-- A block's entry lies in it. -/
theorem mem_unit {a b c d : ℕ} {off : Fin 2 → ℕ} (h) {o0 o1 : ℕ} (ho : off = ![o0, o1]) (i : Fin c) (l : Fin d)
    (r : Fin a) (k : Fin b) (hr : r.val = o0 + i.val) (hk : k.val = o1 + l.val) :
    ix2 r k ∈ (Rect.unit (s := ⟨2, ![a, b]⟩) off ![c, d] h).set := by
  rw [← emb_unit h ho i l r k hr hk]
  rw [← Rect.map_emb_univ]
  exact Finset.mem_map_of_mem _ (Finset.mem_univ _)

end Nvfp4
-- ==== Proof.Pieces.lean ====
module

public import proofs.«01_k».proof.Proof.Spec
public import proofs.«01_k».proof.Proof.Rects

@[expose] public section

set_option maxRecDepth 16384

/-! # What the loops store

Every block a loop stores agrees with one function of the whole matrix. -/

noncomputable section

namespace Cert.KernelIdeal.Gen.Slab

open Idealize.ShloMosaic hiding ix0 ix1 ix2 ix3
open Idealize.ShloMosaic.TcCoe Idealize.ShloMosaic.ValueIdx
open Cert.KernelIdeal Cert.KernelIdeal.Gen Nvfp4

/-- A block agrees with a function of the matrix, entry by entry. -/
theorem agrees_unit {e : EltTy} {a b c d : ℕ} {off : Fin 2 → ℕ} (h) {o0 o1 : ℕ} (ho : off = ![o0, o1])
    (f : (⟨2, ![c, d]⟩ : Shape).Idx → Elt Ideal e) (G : (⟨2, ![a, b]⟩ : Shape).Idx → Elt Ideal e)
    (hf : ∀ (i : Fin c) (l : Fin d) (r : Fin a) (k : Fin b), r.val = o0 + i.val → k.val = o1 + l.val → f (ix2 i l) = G (ix2 r k))
    (x : (⟨2, ![c, d]⟩ : Shape).Idx) : f x = G ((Rect.unit (s := ⟨2, ![a, b]⟩) off ![c, d] h).emb x) := by
  have h0 : o0 + c ≤ a := by have := h 0; rw [ho] at this; exact this
  have h1 : o1 + d ≤ b := by have := h 1; rw [ho] at this; exact this
  rw [ValueIdx.eq_ix2 x]
  generalize x 0 = i
  generalize x 1 = l
  have e := emb_unit h ho (i : Fin c) (l : Fin d) ⟨o0 + i.val, lt_of_lt_of_le (Nat.add_lt_add_left i.isLt _) h0⟩
    ⟨o1 + l.val, lt_of_lt_of_le (Nat.add_lt_add_left l.isLt _) h1⟩ rfl rfl
  exact (hf i l _ _ rfl rfl).trans (congrArg G e.symm)

/-- A row of a matrix in memory. -/
def rowOf {sp : Space} {e : EltTy} {a b : ℕ} (m : Memref sig .tc sp ⟨2, ![a, b]⟩ e) (X : BufTy.Contents (Elt Ideal) m.view.ty)
    (r : Fin a) (j : Fin b) : Elt Ideal e := m.view.read (Elt Ideal) X (ix2 r j)

/-- The two blocks a trip loads hold a slab of each row. -/
theorem holds_rdx (arg3 : Memref sig .tc .vmem S256x1536 .bf16) (X : BufTy.Contents (Elt Ideal) arg3.view.ty) (k : ℕ) (c : Fin 6)
    {o0 o1 : Fin 2 → ℕ} (h0) (h1) (e0 : o0 = ![32 * k, 256 * c.val]) (e1 : o1 = ![32 * k, 256 * c.val + 128]) (i : Fin 32)
    (r : Fin 256) (hr : r.val = 32 * k + i.val) :
    Holds (rdx arg3 X o0 h0) (rdx arg3 X o1 h1) i (slabOf (rowOf arg3 X r) c) := by
  exact ⟨fun l => (congrFun (shapeCast_self _ _) _).trans (readAt_unit _ _ X h0 e0 i l r _ hr rfl),
    fun l => (congrFun (shapeCast_self _ _) _).trans
      (readAt_unit _ _ X h1 e1 i l r _ hr (by show 256 * c.val + (128 + l.val) = _; omega))⟩

/-! ## The loop over rows of the input -/

theorem mem_t2 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (v0 : Elt Ideal .f32) (X_arg3 : BufTy.Contents (Elt Ideal) arg3.view.ty) (n : ℕ) :
    (∀ p ∈ (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 n).1, ∃ k, p ∈ (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k).1)
    ∧ (∀ p ∈ (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 n).2.1, ∃ k, p ∈ (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k).2.1)
    ∧ (∀ p ∈ (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 n).2.2, ∃ k, p ∈ (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k).2.2) := by
  induction n with
  | zero => exact ⟨fun p hp => absurd hp List.not_mem_nil, fun p hp => absurd hp List.not_mem_nil, fun p hp => absurd hp List.not_mem_nil⟩
  | succ n ih =>
    rw [pb_k0_t2.eq_2]
    unfold pb_k0_t2Step
    split
    · next h =>
      exact ⟨fun p hp => (List.mem_append.mp hp).elim (fun h' => ⟨⟨n, h⟩, h'⟩) (ih.1 p),
        fun p hp => (List.mem_append.mp hp).elim (fun h' => ⟨⟨n, h⟩, h'⟩) (ih.2.1 p),
        fun p hp => (List.mem_append.mp hp).elim (fun h' => ⟨⟨n, h⟩, h'⟩) (ih.2.2 p)⟩
    · exact ih

/-- The codes a trip stores. -/
theorem codes_t2 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (v0 : Elt Ideal .f32) (X_arg3 : BufTy.Contents (Elt Ideal) arg3.view.ty) (k : Fin k0_t2_loop.trips) (hg : v0 ≠ 0) :
    ∀ p ∈ (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k).1, ∀ x, p.2 x = (fun y : S256x768.Idx => packS v0 (rowOf arg3 X_arg3 (y 0)) (y 1)) (p.1.emb x) := by
  rw [trip_t2]
  dsimp only
  intro p hp
  simp only [List.mem_cons, List.not_mem_nil, or_false] at hp
  rcases hp with rfl | rfl | rfl | rfl | rfl | rfl
  · exact agrees_unit (e := .i8) (k0_off37_inb k) (k0_off37_eq k) _ (fun y : S256x768.Idx => packS v0 (rowOf arg3 X_arg3 (y 0)) (y 1)) fun i l r j hr hj =>
      (cds_row (holds_rdx arg3 X_arg3 k.val 5 (k0_off35_inb k) (k0_off36_inb k) (k0_off35_eq k) (k0_off36_eq k) i r hr) hg l).trans (congrArg (packS v0 (rowOf arg3 X_arg3 r)) (Fin.ext (by rw [hj]; rfl)))
  · exact agrees_unit (e := .i8) (k0_off34_inb k) (k0_off34_eq k) _ (fun y : S256x768.Idx => packS v0 (rowOf arg3 X_arg3 (y 0)) (y 1)) fun i l r j hr hj =>
      (cds_row (holds_rdx arg3 X_arg3 k.val 4 (k0_off31_inb k) (k0_off33_inb k) (k0_off31_eq k) (k0_off33_eq k) i r hr) hg l).trans (congrArg (packS v0 (rowOf arg3 X_arg3 r)) (Fin.ext (by rw [hj]; rfl)))
  · exact agrees_unit (e := .i8) (k0_off32_inb k) (k0_off32_eq k) _ (fun y : S256x768.Idx => packS v0 (rowOf arg3 X_arg3 (y 0)) (y 1)) fun i l r j hr hj =>
      (cds_row (holds_rdx arg3 X_arg3 k.val 3 (k0_off23_inb k) (k0_off27_inb k) (k0_off23_eq k) (k0_off27_eq k) i r hr) hg l).trans (congrArg (packS v0 (rowOf arg3 X_arg3 r)) (Fin.ext (by rw [hj]; rfl)))
  · exact agrees_unit (e := .i8) (k0_off30_inb k) (k0_off30_eq k) _ (fun y : S256x768.Idx => packS v0 (rowOf arg3 X_arg3 (y 0)) (y 1)) fun i l r j hr hj =>
      (cds_row (holds_rdx arg3 X_arg3 k.val 2 (k0_off28_inb k) (k0_off29_inb k) (k0_off28_eq k) (k0_off29_eq k) i r hr) hg l).trans (congrArg (packS v0 (rowOf arg3 X_arg3 r)) (Fin.ext (by rw [hj]; rfl)))
  · exact agrees_unit (e := .i8) (k0_off26_inb k) (k0_off26_eq k) _ (fun y : S256x768.Idx => packS v0 (rowOf arg3 X_arg3 (y 0)) (y 1)) fun i l r j hr hj =>
      (cds_row (holds_rdx arg3 X_arg3 k.val 1 (k0_off24_inb k) (k0_off25_inb k) (k0_off24_eq k) (k0_off25_eq k) i r hr) hg l).trans (congrArg (packS v0 (rowOf arg3 X_arg3 r)) (Fin.ext (by rw [hj]; rfl)))
  · exact agrees_unit (e := .i8) (k0_off22_inb k) (k0_off22_eq k) _ (fun y : S256x768.Idx => packS v0 (rowOf arg3 X_arg3 (y 0)) (y 1)) fun i l r j hr hj =>
      (cds_row (holds_rdx arg3 X_arg3 k.val 0 (k0_off20_inb k) (k0_off21_inb k) (k0_off20_eq k) (k0_off21_eq k) i r hr) hg l).trans (congrArg (packS v0 (rowOf arg3 X_arg3 r)) (Fin.ext (by rw [hj]; rfl)))

/-- The scales a trip stores. -/
theorem scales_t2 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (v0 : Elt Ideal .f32) (X_arg3 : BufTy.Contents (Elt Ideal) arg3.view.ty) (k : Fin k0_t2_loop.trips) :
    ∀ p ∈ (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k).2.1, ∀ x, p.2 x = (fun y : S256x96.Idx => sclS v0 (rowOf arg3 X_arg3 (y 0)) (y 1)) (p.1.emb x) := by
  rw [trip_t2]
  dsimp only
  intro p hp
  simp only [List.mem_cons, List.not_mem_nil, or_false] at hp
  subst hp
  refine agrees_unit (e := .fp8e4m3) (a := 256) (b := 96) (c := 32) (d := 96) (k0_off38_inb k) (k0_off38_eq k) _ (fun y : S256x96.Idx => sclS v0 (rowOf arg3 X_arg3 (y 0)) (y 1)) fun i l r j hr hj => ?_
  have hs : ∀ c : Fin 6, ∀ q : Fin 16, (![scs v0 (rdx arg3 X_arg3 (k0_off20 k) (k0_off20_inb k)) (rdx arg3 X_arg3 (k0_off21 k) (k0_off21_inb k)), scs v0 (rdx arg3 X_arg3 (k0_off24 k) (k0_off24_inb k)) (rdx arg3 X_arg3 (k0_off25 k) (k0_off25_inb k)), scs v0 (rdx arg3 X_arg3 (k0_off28 k) (k0_off28_inb k)) (rdx arg3 X_arg3 (k0_off29 k) (k0_off29_inb k)), scs v0 (rdx arg3 X_arg3 (k0_off23 k) (k0_off23_inb k)) (rdx arg3 X_arg3 (k0_off27 k) (k0_off27_inb k)), scs v0 (rdx arg3 X_arg3 (k0_off31 k) (k0_off31_inb k)) (rdx arg3 X_arg3 (k0_off33 k) (k0_off33_inb k)), scs v0 (rdx arg3 X_arg3 (k0_off35 k) (k0_off35_inb k)) (rdx arg3 X_arg3 (k0_off36 k) (k0_off36_inb k))] : Fin 6 → FVec Ideal S32x128 .fp8e4m3) c (ix2 i (L q 0))
      = sclS v0 (rowOf arg3 X_arg3 r) ⟨16 * c.val + q.val, by omega⟩ := by
    intro c q
    match c with
    | 0 => exact scs_row (holds_rdx arg3 X_arg3 k.val 0 (k0_off20_inb k) (k0_off21_inb k) (k0_off20_eq k) (k0_off21_eq k) i r hr) q 0
    | 1 => exact scs_row (holds_rdx arg3 X_arg3 k.val 1 (k0_off24_inb k) (k0_off25_inb k) (k0_off24_eq k) (k0_off25_eq k) i r hr) q 0
    | 2 => exact scs_row (holds_rdx arg3 X_arg3 k.val 2 (k0_off28_inb k) (k0_off29_inb k) (k0_off28_eq k) (k0_off29_eq k) i r hr) q 0
    | 3 => exact scs_row (holds_rdx arg3 X_arg3 k.val 3 (k0_off23_inb k) (k0_off27_inb k) (k0_off23_eq k) (k0_off27_eq k) i r hr) q 0
    | 4 => exact scs_row (holds_rdx arg3 X_arg3 k.val 4 (k0_off31_inb k) (k0_off33_inb k) (k0_off31_eq k) (k0_off33_eq k) i r hr) q 0
    | 5 => exact scs_row (holds_rdx arg3 X_arg3 k.val 5 (k0_off35_inb k) (k0_off36_inb k) (k0_off35_eq k) (k0_off36_eq k) i r hr) q 0
  refine (six_apply (![scs v0 (rdx arg3 X_arg3 (k0_off20 k) (k0_off20_inb k)) (rdx arg3 X_arg3 (k0_off21 k) (k0_off21_inb k)), scs v0 (rdx arg3 X_arg3 (k0_off24 k) (k0_off24_inb k)) (rdx arg3 X_arg3 (k0_off25 k) (k0_off25_inb k)), scs v0 (rdx arg3 X_arg3 (k0_off28 k) (k0_off28_inb k)) (rdx arg3 X_arg3 (k0_off29 k) (k0_off29_inb k)), scs v0 (rdx arg3 X_arg3 (k0_off23 k) (k0_off23_inb k)) (rdx arg3 X_arg3 (k0_off27 k) (k0_off27_inb k)), scs v0 (rdx arg3 X_arg3 (k0_off31 k) (k0_off31_inb k)) (rdx arg3 X_arg3 (k0_off33 k) (k0_off33_inb k)), scs v0 (rdx arg3 X_arg3 (k0_off35 k) (k0_off35_inb k)) (rdx arg3 X_arg3 (k0_off36 k) (k0_off36_inb k))]) i l).trans ((hs _ _).trans ?_)
  exact congrArg (sclS v0 (rowOf arg3 X_arg3 r)) (Fin.ext (by show 16 * (l.val / 16) + l.val % 16 = j.val; omega))

/-- The decoded values a trip stores. -/
theorem deq_t2 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (v0 : Elt Ideal .f32) (X_arg3 : BufTy.Contents (Elt Ideal) arg3.view.ty) (k : Fin k0_t2_loop.trips) (hg : v0 ≠ 0) :
    ∀ p ∈ (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k).2.2, ∀ x, p.2 x = (fun y : S256x1536.Idx => deqS v0 (rowOf arg3 X_arg3 (y 0)) (kcol (y 1))) (p.1.emb x) := by
  have hlo : ∀ (r : Fin 256) (c : ℕ) (l : Fin 128) (j : Fin 1536) (h : 128 * c + l.val < 768), j.val = 128 * c + l.val →
      deqS v0 (rowOf arg3 X_arg3 r) ⟨2 * (128 * c + l.val), by omega⟩ = deqS v0 (rowOf arg3 X_arg3 r) (kcol j) := by
    intro r c l j h hj
    rw [show j = ⟨(⟨128 * c + l.val, h⟩ : Fin 768).val, by omega⟩ from Fin.ext hj, kcol_lo]
  have hhi : ∀ (r : Fin 256) (c : ℕ) (l : Fin 128) (j : Fin 1536) (h : 128 * c + l.val < 768), j.val = 768 + (128 * c + l.val) →
      deqS v0 (rowOf arg3 X_arg3 r) ⟨2 * (128 * c + l.val) + 1, by omega⟩ = deqS v0 (rowOf arg3 X_arg3 r) (kcol j) := by
    intro r c l j h hj
    rw [show j = ⟨768 + (⟨128 * c + l.val, h⟩ : Fin 768).val, by omega⟩ from Fin.ext hj, kcol_hi]
  rw [trip_t2]
  dsimp only
  intro p hp
  simp only [List.mem_cons, List.not_mem_nil, or_false] at hp
  rcases hp with rfl | rfl | rfl | rfl | rfl | rfl | rfl | rfl | rfl | rfl | rfl | rfl
  · dsimp only; rw [shapeCast_self]
    exact agrees_unit (e := .bf16) (k0_off36_inb k) (k0_off36_eq k) _ (fun y : S256x1536.Idx => deqS v0 (rowOf arg3 X_arg3 (y 0)) (kcol (y 1))) fun i l r j hr hj => (dhi_row (holds_rdx arg3 X_arg3 k.val 5 (k0_off35_inb k) (k0_off36_inb k) (k0_off35_eq k) (k0_off36_eq k) i r hr) hg l).trans
      (hhi r 5 l j (by omega) (by rw [hj]; omega))
  · dsimp only; rw [shapeCast_self]
    exact agrees_unit (e := .bf16) (k0_off29_inb k) (k0_off29_eq k) _ (fun y : S256x1536.Idx => deqS v0 (rowOf arg3 X_arg3 (y 0)) (kcol (y 1))) fun i l r j hr hj => (dlo_row (holds_rdx arg3 X_arg3 k.val 5 (k0_off35_inb k) (k0_off36_inb k) (k0_off35_eq k) (k0_off36_eq k) i r hr) hg l).trans
      (hlo r 5 l j (by omega) (by rw [hj]))
  · dsimp only; rw [shapeCast_self]
    exact agrees_unit (e := .bf16) (k0_off35_inb k) (k0_off35_eq k) _ (fun y : S256x1536.Idx => deqS v0 (rowOf arg3 X_arg3 (y 0)) (kcol (y 1))) fun i l r j hr hj => (dhi_row (holds_rdx arg3 X_arg3 k.val 4 (k0_off31_inb k) (k0_off33_inb k) (k0_off31_eq k) (k0_off33_eq k) i r hr) hg l).trans
      (hhi r 4 l j (by omega) (by rw [hj]; omega))
  · dsimp only; rw [shapeCast_self]
    exact agrees_unit (e := .bf16) (k0_off28_inb k) (k0_off28_eq k) _ (fun y : S256x1536.Idx => deqS v0 (rowOf arg3 X_arg3 (y 0)) (kcol (y 1))) fun i l r j hr hj => (dlo_row (holds_rdx arg3 X_arg3 k.val 4 (k0_off31_inb k) (k0_off33_inb k) (k0_off31_eq k) (k0_off33_eq k) i r hr) hg l).trans
      (hlo r 4 l j (by omega) (by rw [hj]))
  · dsimp only; rw [shapeCast_self]
    exact agrees_unit (e := .bf16) (k0_off33_inb k) (k0_off33_eq k) _ (fun y : S256x1536.Idx => deqS v0 (rowOf arg3 X_arg3 (y 0)) (kcol (y 1))) fun i l r j hr hj => (dhi_row (holds_rdx arg3 X_arg3 k.val 3 (k0_off23_inb k) (k0_off27_inb k) (k0_off23_eq k) (k0_off27_eq k) i r hr) hg l).trans
      (hhi r 3 l j (by omega) (by rw [hj]; omega))
  · dsimp only; rw [shapeCast_self]
    exact agrees_unit (e := .bf16) (k0_off25_inb k) (k0_off25_eq k) _ (fun y : S256x1536.Idx => deqS v0 (rowOf arg3 X_arg3 (y 0)) (kcol (y 1))) fun i l r j hr hj => (dlo_row (holds_rdx arg3 X_arg3 k.val 3 (k0_off23_inb k) (k0_off27_inb k) (k0_off23_eq k) (k0_off27_eq k) i r hr) hg l).trans
      (hlo r 3 l j (by omega) (by rw [hj]))
  · dsimp only; rw [shapeCast_self]
    exact agrees_unit (e := .bf16) (k0_off31_inb k) (k0_off31_eq k) _ (fun y : S256x1536.Idx => deqS v0 (rowOf arg3 X_arg3 (y 0)) (kcol (y 1))) fun i l r j hr hj => (dhi_row (holds_rdx arg3 X_arg3 k.val 2 (k0_off28_inb k) (k0_off29_inb k) (k0_off28_eq k) (k0_off29_eq k) i r hr) hg l).trans
      (hhi r 2 l j (by omega) (by rw [hj]; omega))
  · dsimp only; rw [shapeCast_self]
    exact agrees_unit (e := .bf16) (k0_off24_inb k) (k0_off24_eq k) _ (fun y : S256x1536.Idx => deqS v0 (rowOf arg3 X_arg3 (y 0)) (kcol (y 1))) fun i l r j hr hj => (dlo_row (holds_rdx arg3 X_arg3 k.val 2 (k0_off28_inb k) (k0_off29_inb k) (k0_off28_eq k) (k0_off29_eq k) i r hr) hg l).trans
      (hlo r 2 l j (by omega) (by rw [hj]))
  · dsimp only; rw [shapeCast_self]
    exact agrees_unit (e := .bf16) (k0_off27_inb k) (k0_off27_eq k) _ (fun y : S256x1536.Idx => deqS v0 (rowOf arg3 X_arg3 (y 0)) (kcol (y 1))) fun i l r j hr hj => (dhi_row (holds_rdx arg3 X_arg3 k.val 1 (k0_off24_inb k) (k0_off25_inb k) (k0_off24_eq k) (k0_off25_eq k) i r hr) hg l).trans
      (hhi r 1 l j (by omega) (by rw [hj]; omega))
  · dsimp only; rw [shapeCast_self]
    exact agrees_unit (e := .bf16) (k0_off21_inb k) (k0_off21_eq k) _ (fun y : S256x1536.Idx => deqS v0 (rowOf arg3 X_arg3 (y 0)) (kcol (y 1))) fun i l r j hr hj => (dlo_row (holds_rdx arg3 X_arg3 k.val 1 (k0_off24_inb k) (k0_off25_inb k) (k0_off24_eq k) (k0_off25_eq k) i r hr) hg l).trans
      (hlo r 1 l j (by omega) (by rw [hj]))
  · dsimp only; rw [shapeCast_self]
    exact agrees_unit (e := .bf16) (k0_off23_inb k) (k0_off23_eq k) _ (fun y : S256x1536.Idx => deqS v0 (rowOf arg3 X_arg3 (y 0)) (kcol (y 1))) fun i l r j hr hj => (dhi_row (holds_rdx arg3 X_arg3 k.val 0 (k0_off20_inb k) (k0_off21_inb k) (k0_off20_eq k) (k0_off21_eq k) i r hr) hg l).trans
      (hhi r 0 l j (by omega) (by rw [hj]; omega))
  · dsimp only; rw [shapeCast_self]
    exact agrees_unit (e := .bf16) (k0_off20_inb k) (k0_off20_eq k) _ (fun y : S256x1536.Idx => deqS v0 (rowOf arg3 X_arg3 (y 0)) (kcol (y 1))) fun i l r j hr hj => (dlo_row (holds_rdx arg3 X_arg3 k.val 0 (k0_off20_inb k) (k0_off21_inb k) (k0_off20_eq k) (k0_off21_eq k) i r hr) hg l).trans
      (hlo r 0 l j (by omega) (by rw [hj]))

/-! ## The loop over rows of the weight -/

theorem mem_t1 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (k0_h1 : k0_cond1 i = 1#1) (X_arg5 : BufTy.Contents (Elt Ideal) arg5.view.ty) (X_arg6 : BufTy.Contents (Elt Ideal) arg6.view.ty) (G_arg12 : BufTy.Contents (Elt Ideal) arg12.view.ty) (G_arg14 : BufTy.Contents (Elt Ideal) arg14.view.ty) (n : ℕ) :
    ∀ p ∈ (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 G_arg12 G_arg14 n).1, ∃ k f_arg12 f_arg14, p ∈ (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 k f_arg12 f_arg14).1 := by
  induction n with
  | zero => exact fun p hp => absurd hp List.not_mem_nil
  | succ n ih =>
    rw [pb_k0_t1.eq_2]
    unfold pb_k0_t1Step
    split
    · next h => exact fun p hp => (List.mem_append.mp hp).elim (fun h' => ⟨⟨n, h⟩, _, _, h'⟩) (ih p)
    · exact ih

theorem pay9_eq (v : Vec Ideal S32x96 .fp8e4m3) : k0_pay9 (F := Ideal) v = v := by
  unfold k0_pay9
  exact shapeCast_self _ _

/-- The scales the trip reads back are the weight's, below column 96. -/
theorem rds_apply (i : grid0.Coords) (arg6 : Memref sig .tc .vmem S6144x96 .fp8e4m3) (arg14 : Memref sig .tc .vmem S32x128 .fp8e4m3)
    (k0_h1 : k0_cond1 i = 1#1) (X : BufTy.Contents (Elt Ideal) arg6.view.ty) (k : Fin k0_t1_loop.trips)
    (f : BufTy.Contents (Elt Ideal) arg14.view.ty) (a : Fin 32) (r : Fin 6144) (hr : r.val = 32 * k.val + a.val)
    (q : Fin 128) (hq : q.val < 96) :
    rds i arg6 arg14 k0_h1 X k f (ix2 a q) = rowOf arg6 X r ⟨q.val, hq⟩ := by
  unfold rds
  refine (readAt_unit arg14.view (Elt Ideal) _ inb_S32x128_S32x128_0_0 (o0 := 0) (o1 := 0) rfl a q a q (Nat.zero_add _).symm (Nat.zero_add _).symm).trans ?_
  rw [← emb_unit (a := 32) (b := 128) (c := 32) (d := 96) inb_S32x128_S32x96_0_0 (o0 := 0) (o1 := 0) rfl a ⟨q.val, hq⟩ a q (Nat.zero_add _).symm (Nat.zero_add _).symm]
  refine (View.read_writes_cons_emb arg14.view f (Rect.unit (s := S32x128) ![0, 0] S32x96.size inb_S32x128_S32x96_0_0) _ [] (ix2 a ⟨q.val, hq⟩)).trans ?_
  refine (congrFun (pay9_eq _) _).trans ?_
  exact readAt_unit arg6.view (Elt Ideal) X (k0_off1_inb i k k0_h1) (k0_off1_eq k) a ⟨q.val, hq⟩ r ⟨q.val, hq⟩ hr (Nat.zero_add _).symm

/-- The decoded weight's row. -/
def wqG (arg5 : Memref sig .tc .vmem S6144x768 .i8) (X5 : BufTy.Contents (Elt Ideal) arg5.view.ty)
    (arg6 : Memref sig .tc .vmem S6144x96 .fp8e4m3) (X6 : BufTy.Contents (Elt Ideal) arg6.view.ty) (y : S6144x1536.Idx) : EReal :=
  decS (rowOf arg5 X5 (y 0)) (rowOf arg6 X6 (y 0)) (kcol (y 1))

theorem kcol_eq_lo (j : Fin 1536) (m : ℕ) (hj : j.val = m) (hm : m < 768) : kcol j = ⟨2 * m, by omega⟩ := by
  subst hj; exact kcol_lo ⟨j.val, hm⟩

theorem kcol_eq_hi (j : Fin 1536) (m : ℕ) (hj : j.val = 768 + m) (hm : m < 768) : kcol j = ⟨2 * m + 1, by omega⟩ := by
  have e : j = ⟨768 + m, by omega⟩ := Fin.ext hj
  exact (congrArg kcol e).trans (kcol_hi ⟨m, hm⟩)

section
variable {i : grid0.Coords} {arg5 : Memref sig .tc .vmem S6144x768 .i8} {X5 : BufTy.Contents (Elt Ideal) arg5.view.ty}
  {arg6 : Memref sig .tc .vmem S6144x96 .fp8e4m3} {X6 : BufTy.Contents (Elt Ideal) arg6.view.ty}
  {arg14 : Memref sig .tc .vmem S32x128 .fp8e4m3} (k0_h1 : k0_cond1 i = 1#1) (k : Fin k0_t1_loop.trips)
  (f : BufTy.Contents (Elt Ideal) arg14.view.ty) (c : Fin 6) {o : BitVec 32} (ho' : o = BitVec.ofNat 32 (16 * c.val))
  {off : Fin 2 → ℕ} (h) (ho : off = ![32 * k.val, 128 * c.val]) (a : Fin 32) (l : Fin 128) (r : Fin 6144) (j : Fin 1536)
  (hr : r.val = 32 * k.val + a.val)
include ho' ho hr

theorem wlo_row (hj : j.val = 128 * c.val + l.val) :
    wlo (rds i arg6 arg14 k0_h1 X6 k f) o (rdw arg5 X5 off h) (ix2 a l) = wqG arg5 X5 arg6 X6 (ix2 r j) := by
  subst ho'
  unfold wlo
  refine (congrFun (shapeCast_self _ _) _).trans ?_
  rw [wlo_apply, rds_apply i arg6 arg14 k0_h1 X6 k f a r hr _ (by show 16 * c.val + l.val / 8 < 96; omega)]
  rw [show rdw arg5 X5 off h (ix2 a l) = rowOf arg5 X5 r ⟨128 * c.val + l.val, by omega⟩ from
    readAt_unit arg5.view (Elt Ideal) X5 h ho a l r ⟨128 * c.val + l.val, by omega⟩ hr rfl]
  show _ = decS (rowOf arg5 X5 r) (rowOf arg6 X6 r) (kcol j)
  rw [kcol_eq_lo j _ hj (by omega)]
  unfold decS
  rw [if_pos (by show 2 * (128 * c.val + l.val) % 2 = 0; omega)]
  have e1 : (⟨2 * (128 * c.val + l.val) / 2, by omega⟩ : Fin 768) = ⟨128 * c.val + l.val, by omega⟩ := Fin.ext (by show 2 * (128 * c.val + l.val) / 2 = 128 * c.val + l.val; omega)
  have e2 : (⟨2 * (128 * c.val + l.val) / 16, by omega⟩ : Fin 96) = ⟨16 * c.val + l.val / 8, by omega⟩ := Fin.ext (by show 2 * (128 * c.val + l.val) / 16 = 16 * c.val + l.val / 8; omega)
  simp only [e1, e2]

theorem whi_row (hj : j.val = 768 + (128 * c.val + l.val)) :
    whi (rds i arg6 arg14 k0_h1 X6 k f) o (rdw arg5 X5 off h) (ix2 a l) = wqG arg5 X5 arg6 X6 (ix2 r j) := by
  subst ho'
  unfold whi
  refine (congrFun (shapeCast_self _ _) _).trans ?_
  rw [whi_apply, rds_apply i arg6 arg14 k0_h1 X6 k f a r hr _ (by show 16 * c.val + l.val / 8 < 96; omega)]
  rw [show rdw arg5 X5 off h (ix2 a l) = rowOf arg5 X5 r ⟨128 * c.val + l.val, by omega⟩ from
    readAt_unit arg5.view (Elt Ideal) X5 h ho a l r ⟨128 * c.val + l.val, by omega⟩ hr rfl]
  show _ = decS (rowOf arg5 X5 r) (rowOf arg6 X6 r) (kcol j)
  rw [kcol_eq_hi j _ hj (by omega)]
  unfold decS
  rw [if_neg (by show ¬ (2 * (128 * c.val + l.val) + 1) % 2 = 0; omega)]
  have e1 : (⟨(2 * (128 * c.val + l.val) + 1) / 2, by omega⟩ : Fin 768) = ⟨128 * c.val + l.val, by omega⟩ := Fin.ext (by show (2 * (128 * c.val + l.val) + 1) / 2 = 128 * c.val + l.val; omega)
  have e2 : (⟨(2 * (128 * c.val + l.val) + 1) / 16, by omega⟩ : Fin 96) = ⟨16 * c.val + l.val / 8, by omega⟩ := Fin.ext (by show (2 * (128 * c.val + l.val) + 1) / 16 = 16 * c.val + l.val / 8; omega)
  simp only [e1, e2]

end

/-- What a trip over rows of the weight stores. -/
theorem wq_t1 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (k0_h1 : k0_cond1 i = 1#1) (X_arg5 : BufTy.Contents (Elt Ideal) arg5.view.ty) (X_arg6 : BufTy.Contents (Elt Ideal) arg6.view.ty) (k : Fin k0_t1_loop.trips) (f_arg12 : BufTy.Contents (Elt Ideal) arg12.view.ty) (f_arg14 : BufTy.Contents (Elt Ideal) arg14.view.ty) :
    ∀ p ∈ (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 k f_arg12 f_arg14).1, ∀ x, p.2 x = (wqG arg5 X_arg5 arg6 X_arg6) (p.1.emb x) := by
  rw [trip_t1]
  intro p hp
  simp only [List.mem_cons, List.not_mem_nil, or_false] at hp
  rcases hp with rfl | rfl | rfl | rfl | rfl | rfl | rfl | rfl | rfl | rfl | rfl | rfl
  · exact agrees_unit (e := .bf16) (k0_off19_inb i k k0_h1) (k0_off19_eq k) _ (wqG arg5 X_arg5 arg6 X_arg6) fun a l r j hr hj =>
      whi_row k0_h1 k f_arg14 5 rfl (k0_off17_inb i k k0_h1) (k0_off17_eq k) a l r j hr (by rw [hj]; show _ = 768 + (128 * 5 + l.val); omega)
  · exact agrees_unit (e := .bf16) (k0_off18_inb i k k0_h1) (k0_off18_eq k) _ (wqG arg5 X_arg5 arg6 X_arg6) fun a l r j hr hj =>
      wlo_row k0_h1 k f_arg14 5 rfl (k0_off17_inb i k k0_h1) (k0_off17_eq k) a l r j hr (by rw [hj]; rfl)
  · exact agrees_unit (e := .bf16) (k0_off16_inb i k k0_h1) (k0_off16_eq k) _ (wqG arg5 X_arg5 arg6 X_arg6) fun a l r j hr hj =>
      whi_row k0_h1 k f_arg14 4 rfl (k0_off14_inb i k k0_h1) (k0_off14_eq k) a l r j hr (by rw [hj]; show _ = 768 + (128 * 4 + l.val); omega)
  · exact agrees_unit (e := .bf16) (k0_off15_inb i k k0_h1) (k0_off15_eq k) _ (wqG arg5 X_arg5 arg6 X_arg6) fun a l r j hr hj =>
      wlo_row k0_h1 k f_arg14 4 rfl (k0_off14_inb i k k0_h1) (k0_off14_eq k) a l r j hr (by rw [hj]; rfl)
  · exact agrees_unit (e := .bf16) (k0_off13_inb i k k0_h1) (k0_off13_eq k) _ (wqG arg5 X_arg5 arg6 X_arg6) fun a l r j hr hj =>
      whi_row k0_h1 k f_arg14 3 rfl (k0_off11_inb i k k0_h1) (k0_off11_eq k) a l r j hr (by rw [hj]; show _ = 768 + (128 * 3 + l.val); omega)
  · exact agrees_unit (e := .bf16) (k0_off12_inb i k k0_h1) (k0_off12_eq k) _ (wqG arg5 X_arg5 arg6 X_arg6) fun a l r j hr hj =>
      wlo_row k0_h1 k f_arg14 3 rfl (k0_off11_inb i k k0_h1) (k0_off11_eq k) a l r j hr (by rw [hj]; rfl)
  · exact agrees_unit (e := .bf16) (k0_off10_inb i k k0_h1) (k0_off10_eq k) _ (wqG arg5 X_arg5 arg6 X_arg6) fun a l r j hr hj =>
      whi_row k0_h1 k f_arg14 2 rfl (k0_off8_inb i k k0_h1) (k0_off8_eq k) a l r j hr (by rw [hj]; show _ = 768 + (128 * 2 + l.val); omega)
  · exact agrees_unit (e := .bf16) (k0_off9_inb i k k0_h1) (k0_off9_eq k) _ (wqG arg5 X_arg5 arg6 X_arg6) fun a l r j hr hj =>
      wlo_row k0_h1 k f_arg14 2 rfl (k0_off8_inb i k k0_h1) (k0_off8_eq k) a l r j hr (by rw [hj]; rfl)
  · exact agrees_unit (e := .bf16) (k0_off7_inb i k k0_h1) (k0_off7_eq k) _ (wqG arg5 X_arg5 arg6 X_arg6) fun a l r j hr hj =>
      whi_row k0_h1 k f_arg14 1 rfl (k0_off5_inb i k k0_h1) (k0_off5_eq k) a l r j hr (by rw [hj]; show _ = 768 + (128 * 1 + l.val); omega)
  · exact agrees_unit (e := .bf16) (k0_off6_inb i k k0_h1) (k0_off6_eq k) _ (wqG arg5 X_arg5 arg6 X_arg6) fun a l r j hr hj =>
      wlo_row k0_h1 k f_arg14 1 rfl (k0_off5_inb i k k0_h1) (k0_off5_eq k) a l r j hr (by rw [hj]; rfl)
  · exact agrees_unit (e := .bf16) (k0_off4_inb i k k0_h1) (k0_off4_eq k) _ (wqG arg5 X_arg5 arg6 X_arg6) fun a l r j hr hj =>
      whi_row k0_h1 k f_arg14 0 rfl (k0_off2_inb i k k0_h1) (k0_off2_eq k) a l r j hr (by rw [hj]; show _ = 768 + (128 * 0 + l.val); omega)
  · exact agrees_unit (e := .bf16) (k0_off3_inb i k k0_h1) (k0_off3_eq k) _ (wqG arg5 X_arg5 arg6 X_arg6) fun a l r j hr hj =>
      wlo_row k0_h1 k f_arg14 0 rfl (k0_off2_inb i k k0_h1) (k0_off2_eq k) a l r j hr (by rw [hj]; rfl)

end Cert.KernelIdeal.Gen.Slab
-- ==== Proof.Products.lean ====
module

public import proofs.«01_k».proof.Proof.Pieces
public import Idealize.ShloMosaic.Lib.MatmulPlain

@[expose] public section

set_option maxRecDepth 16384

/-! # The products

What the loop over the output's columns stores. -/

noncomputable section

namespace Cert.KernelIdeal.Gen.Slab

open Idealize.ShloMosaic hiding ix0 ix1 ix2 ix3
open Idealize.ShloMosaic.TcCoe Idealize.ShloMosaic.ValueIdx
open Cert.KernelIdeal Cert.KernelIdeal.Gen Nvfp4
open scoped BigOperators

/-- One entry of the result, from the decoded rows and the low-rank factors. -/
def dxOf {J : Type} [Fintype J] (d w : J → EReal) (gw : EReal) (x : Fin 1536 → EReal) (up : Fin 16 → Fin 1536 → EReal) (dn : Fin 16 → EReal) (sm : EReal) : EReal :=
  ((∑ k, d k * w k) * gw + ∑ r, (∑ j, x j * up r j) * dn r) * sm

/-- A product against a transposed right operand, on a zero accumulator. -/
theorem mm_t {M K N : ℕ} (l : FVec Ideal ⟨2, ![M, K]⟩ .bf16) (r : FVec Ideal ⟨2, ![N, K]⟩ .bf16) (a : Fin M) (b : Fin N) :
    FloatOps.matmul (DotDims.transposedRhs M K N) none l r (constant (F := Ideal) ⟨2, ![M, N]⟩ .f32 0x00000000#32) (ix2 a b)
      = ∑ k : Fin K, l (ix2 a k) * r (ix2 b k) := by
  rw [Ideal.matmul_transposedRhs_apply]
  exact (congrArg (· + _) c_zero).trans (zero_add _)

/-- A plain product on a zero accumulator. -/
theorem mm_p {M K N : ℕ} (l : FVec Ideal ⟨2, ![M, K]⟩ .bf16) (r : FVec Ideal ⟨2, ![K, N]⟩ .bf16) (a : Fin M) (b : Fin N) :
    FloatOps.matmul (DotDims.plain M K N) none l r (constant (F := Ideal) ⟨2, ![M, N]⟩ .f32 0x00000000#32) (ix2 a b)
      = ∑ k : Fin K, l (ix2 a k) * r (ix2 k b) := by
  rw [Ideal.matmul_plain_apply]
  exact (congrArg (· + _) c_zero).trans (zero_add _)

theorem dxOf_congr {J : Type} [Fintype J] {d d' w w' : J → EReal} {gw gw' : EReal} {x x' : Fin 1536 → EReal} {up up' : Fin 16 → Fin 1536 → EReal}
    {dn dn' : Fin 16 → EReal} {sm sm' : EReal} (h1 : d = d') (h2 : w = w') (h3 : gw = gw') (h4 : x = x') (h5 : up = up') (h6 : dn = dn') (h7 : sm = sm') :
    dxOf d w gw x up dn sm = dxOf d' w' gw' x' up' dn' sm' := by
  subst h1 h2 h3 h4 h5 h6 h7; rfl

theorem pay8_apply (v0 : Elt Ideal .f32) (v8 : Vec Ideal S256x1536 .bf16) (v10 : Vec Ideal S16x1536 .bf16) (v13 : Elt Ideal .f32)
    (v20 : Vec Ideal S256x1536 .bf16) (v22 : Vec Ideal S512x1536 .bf16) (v25 : Vec Ideal S16x512 .bf16) (v32 : Vec Ideal S1x512 .f32)
    (a : Fin 256) (b : Fin 512) :
    k0_pay8 (F := Ideal) v0 v8 v10 v13 v20 v22 v25 v32 (ix2 a b)
      = dxOf (J := Fin 1536) (fun k => v20 (ix2 a k)) (fun k => v22 (ix2 b k)) (v0 * v13) (fun j => v8 (ix2 a j)) (fun r j => v10 (ix2 r j))
          (fun r => v25 (ix2 r b)) (v32 (ix2 (0 : Fin 1) b)) := by
  have m1 : ∀ r : Fin 16, matmul (F := Ideal) (φ₁ := .bf16) (φ₂ := .bf16) dot_S256x1536_S16x1536_S256x16_1_1_0_0_n_n none v8 v10 (constant S256x16 .f32 0x00000000#32) (ix2 a r)
      = ∑ j : Fin 1536, v8 (ix2 a j) * v10 (ix2 r j) := mm_t v8 v10 a
  have m2 : matmul (F := Ideal) (φ₁ := .bf16) (φ₂ := .bf16) dot_S256x1536_S512x1536_S256x512_1_1_0_0_n_n none v20 v22 (constant S256x512 .f32 0x00000000#32) (ix2 a b)
      = ∑ j : Fin 1536, v20 (ix2 a j) * v22 (ix2 b j) := mm_t v20 v22 a b
  have m3 : ∀ u : FVec Ideal S256x16 .bf16, matmul (F := Ideal) (φ₁ := .bf16) (φ₂ := .bf16) dot_S256x16_S16x512_S256x512_1_0_0_1_n_n none u v25 (constant S256x512 .f32 0x00000000#32) (ix2 a b)
      = ∑ r : Fin 16, u (ix2 a r) * v25 (ix2 r b) := fun u => mm_p u v25 a b
  have hb : broadcastTo S256x512 v32 broadcasts_S1x512_S256x512 (ix2 a b) = v32 (ix2 (0 : Fin 1) b) :=
    broadcastTo_apply _ _ _ _ (fun x => match x with | ⟨0, _⟩ => rfl | ⟨1, _⟩ => rfl)
  unfold k0_pay8 dxOf
  dsimp only
  rw [shapeCast_self, shapeCast_self, shapeCast_self]
  show (matmul (F := Ideal) (φ₁ := .bf16) (φ₂ := .bf16) dot_S256x1536_S512x1536_S256x512_1_1_0_0_n_n none v20 v22 (constant S256x512 .f32 0x00000000#32) (ix2 a b) * (v0 * v13)
    + matmul (F := Ideal) (φ₁ := .bf16) (φ₂ := .bf16) dot_S256x16_S16x512_S256x512_1_0_0_1_n_n none _ v25 (constant S256x512 .f32 0x00000000#32) (ix2 a b))
    * broadcastTo S256x512 v32 broadcasts_S1x512_S256x512 (ix2 a b) = _
  rw [m2, m3, hb]
  congr 2
  refine Finset.sum_congr rfl fun r _ => ?_
  rw [← m1]
  rfl

theorem mem_t3 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (v0 : Elt Ideal .f32) (v8 : Vec Ideal S256x1536 .bf16) (v10 : Vec Ideal S16x1536 .bf16) (v13 : Elt Ideal .f32) (X_arg4 : BufTy.Contents (Elt Ideal) arg4.view.ty) (X_arg7 : BufTy.Contents (Elt Ideal) arg7.view.ty) (X_arg12 : BufTy.Contents (Elt Ideal) arg12.view.ty) (X_arg13 : BufTy.Contents (Elt Ideal) arg13.view.ty) (n : ℕ) :
    ∀ p ∈ pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v8 v10 v13 X_arg4 X_arg7 X_arg12 X_arg13 n, ∃ k, p ∈ tripL_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v8 v10 v13 X_arg4 X_arg7 X_arg12 X_arg13 k := by
  induction n with
  | zero => exact fun p hp => absurd hp List.not_mem_nil
  | succ n ih =>
    rw [pb_k0_t3.eq_2]
    unfold pb_k0_t3Step
    split
    · next h => exact fun p hp => (List.mem_append.mp hp).elim (fun h' => ⟨⟨n, h⟩, h'⟩) (ih p)
    · exact ih

/-- What a trip over the output's columns stores. -/
theorem dx_t3 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (v0 : Elt Ideal .f32) (v8 : Vec Ideal S256x1536 .bf16) (v10 : Vec Ideal S16x1536 .bf16) (v13 : Elt Ideal .f32) (X_arg4 : BufTy.Contents (Elt Ideal) arg4.view.ty) (X_arg7 : BufTy.Contents (Elt Ideal) arg7.view.ty) (X_arg12 : BufTy.Contents (Elt Ideal) arg12.view.ty) (X_arg13 : BufTy.Contents (Elt Ideal) arg13.view.ty) (k : Fin k0_t3_loop.trips) :
    ∀ p ∈ tripL_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v8 v10 v13 X_arg4 X_arg7 X_arg12 X_arg13 k, ∀ x, p.2 x = (fun y : S256x6144.Idx =>
      dxOf (J := Fin 1536) (rowOf arg13 X_arg13 (y 0)) (rowOf arg12 X_arg12 (y 1)) (v0 * v13) (fun j => v8 (ix2 (y 0) j)) (fun r j => v10 (ix2 r j))
        (fun r => rowOf arg7 X_arg7 r (y 1)) (rowOf arg4 X_arg4 (0 : Fin 1) (y 1))) (p.1.emb x) := by
  unfold tripL_k0_t3 trip_k0_t3
  dsimp only
  intro p hp
  simp only [List.mem_cons, List.not_mem_nil, or_false] at hp
  subst hp
  refine agrees_unit (e := .bf16) (a := 256) (b := 6144) (c := 256) (d := 512) (k0_off42_inb k) (k0_off42_eq k) _ (fun y : S256x6144.Idx =>
      dxOf (J := Fin 1536) (rowOf arg13 X_arg13 (y 0)) (rowOf arg12 X_arg12 (y 1)) (v0 * v13) (fun j => v8 (ix2 (y 0) j)) (fun r j => v10 (ix2 r j))
        (fun r => rowOf arg7 X_arg7 r (y 1)) (rowOf arg4 X_arg4 (0 : Fin 1) (y 1))) fun a b r n hr hn => ?_
  have er : r = a := Fin.ext (hr.trans (Nat.zero_add _))
  subst er
  refine (pay8_apply _ _ _ _ _ _ _ _ r b).trans ?_
  have e13 : (fun k : Fin 1536 => View.readAt (Elt Ideal) arg13.view (Rect.unit (s := S256x1536) ![0, 0] ![256, 1536] inb_S256x1536_S256x1536_0_0).toLoadRect X_arg13 (ix2 r k)) = rowOf arg13 X_arg13 r :=
    funext fun k => readAt_unit arg13.view (Elt Ideal) X_arg13 inb_S256x1536_S256x1536_0_0 (o0 := 0) (o1 := 0) rfl r k r k (Nat.zero_add _).symm (Nat.zero_add _).symm
  have e12 : (fun m : Fin 1536 => View.readAt (Elt Ideal) arg12.view (Rect.unit (s := S6144x1536) (k0_off39 k) ![512, 1536] (k0_off39_inb k)).toLoadRect X_arg12 (ix2 b m)) = rowOf arg12 X_arg12 n :=
    funext fun m => readAt_unit arg12.view (Elt Ideal) X_arg12 (k0_off39_inb k) (k0_off39_eq k) b m n m hn (Nat.zero_add _).symm
  have e7 : (fun q : Fin 16 => View.readAt (Elt Ideal) arg7.view (Rect.unit (s := S16x6144) (k0_off40 k) ![16, 512] (k0_off40_inb k)).toLoadRect X_arg7 (ix2 q b)) = fun q => rowOf arg7 X_arg7 q n :=
    funext fun q => readAt_unit arg7.view (Elt Ideal) X_arg7 (k0_off40_inb k) (k0_off40_eq k) q b q n (Nat.zero_add _).symm hn
  have e4 : View.readAt (Elt Ideal) arg4.view (Rect.unit (s := S1x6144) (k0_off41 k) ![1, 512] (k0_off41_inb k)).toLoadRect X_arg4 (ix2 (0 : Fin 1) b) = rowOf arg4 X_arg4 (0 : Fin 1) n :=
    readAt_unit arg4.view (Elt Ideal) X_arg4 (k0_off41_inb k) (k0_off41_eq k) (0 : Fin 1) b (0 : Fin 1) n rfl hn
  exact dxOf_congr e13 e12 rfl rfl rfl e7 e4

end Cert.KernelIdeal.Gen.Slab
-- ==== Proof.KernelIdealFrame.Rebase.lean ====
module

public import proofs.«01_k».proof.Proof.Gen.KernelIdeal.Frame.Runs

@[expose] public section

set_option maxRecDepth 16384

/-! # The scratch after the loops that fill it

The first loop stores the whole decoded weight and the second the whole quantised block, so what the two buffers hold
afterwards does not depend on what they held before. -/

noncomputable section

namespace Cert.KernelIdeal.Gen

open Idealize.ShloMosaic Idealize.ShloMosaic.TcCoe Idealize.ShloMosaic.Tactic
open Idealize.SL Idealize.SL.RA Idealize.SL.BI

variable {F : FTy → Type} [FloatOps F]

variable (𝒱 : Variants)
  (c : Dev nD)
  (bd : Option 𝒱.V)
  (i : grid0.Coords)
  (arg1 : Memref sig .tc .smem S1 .f32)
  (harg1 : arg1.IsWhole)
  (arg2 : Memref sig .tc .smem S1 .f32)
  (harg2 : arg2.IsWhole)
  (arg3 : Memref sig .tc .vmem S256x1536 .bf16)
  (harg3 : arg3.IsWhole)
  (arg4 : Memref sig .tc .vmem S1x6144 .f32)
  (harg4 : arg4.IsWhole)
  (arg5 : Memref sig .tc .vmem S6144x768 .i8)
  (harg5 : arg5.IsWhole)
  (arg6 : Memref sig .tc .vmem S6144x96 .fp8e4m3)
  (harg6 : arg6.IsWhole)
  (arg7 : Memref sig .tc .vmem S16x6144 .bf16)
  (harg7 : arg7.IsWhole)
  (arg8 : Memref sig .tc .vmem S16x1536 .bf16)
  (harg8 : arg8.IsWhole)
  (arg9 : Memref sig .tc .vmem S256x6144 .bf16)
  (harg9 : arg9.IsWhole)
  (arg10 : Memref sig .tc .vmem S256x768 .i8)
  (harg10 : arg10.IsWhole)
  (arg11 : Memref sig .tc .vmem S256x96 .fp8e4m3)
  (harg11 : arg11.IsWhole)
  (arg12 : Memref sig .tc .vmem S6144x1536 .bf16)
  (harg12 : arg12.IsWhole)
  (arg13 : Memref sig .tc .vmem S256x1536 .bf16)
  (harg13 : arg13.IsWhole)
  (arg14 : Memref sig .tc .vmem S32x128 .fp8e4m3)
  (harg14 : arg14.IsWhole)

/-- A buffer held whole, once its pieces cover it, is as if they had been written over any other contents. -/
theorem writes_rebase {sp : Space} {s : Shape} {e : EltTy} (M : Memref sig .tc sp s e) (h : M.IsWhole)
    (f f' : BufTy.Contents (Elt F) M.view.ty) (L : List (View.Piece (Elt F) s e)) (hL : ∀ y : s.Idx, ∃ p ∈ L, y ∈ p.1.set) :
    M.view.writes (Elt F) f L = M.view.writes (Elt F) f' L :=
  (h.eq_unread (View.read_writes_of_cover M.view f M.view f' L hL)).trans (h.eq_unread rfl).symm

section Decode

variable (k0_h1 : k0_cond1 i = 1#1) (X_arg5 : BufTy.Contents (Elt F) arg5.view.ty) (X_arg6 : BufTy.Contents (Elt F) arg6.view.ty)

/-- A trip of the decoding loop stores the same pieces whatever the decoded weight held. -/
theorem trip_t1_free (k : Fin k0_t1_loop.trips) (f f' : BufTy.Contents (Elt F) arg12.view.ty)
    (g : BufTy.Contents (Elt F) arg14.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 k f g = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 k f' g := by
  unfold tripL_k0_t1 trip_k0_t1
  rfl

/-- So do all of them. -/
theorem pb_t1_free (f f' : BufTy.Contents (Elt F) arg12.view.ty) (g : BufTy.Contents (Elt F) arg14.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f' g n := by
  induction n with
  | zero => rfl
  | succ n ih =>
    rw [pb_k0_t1.eq_2, pb_k0_t1.eq_2, ih]
    unfold pb_k0_t1Step
    split
    · rw [trip_t1_free 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 _ _ (arg12.view.writes (Elt F) f' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f' g n).1)]
    · rfl

/-- The decoding loop's pieces cover the decoded weight. -/
theorem cover_t1 (f : BufTy.Contents (Elt F) arg12.view.ty) (g : BufTy.Contents (Elt F) arg14.view.ty) (y : S6144x1536.Idx) :
    ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g k0_t1_loop.trips).1, y ∈ p.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g k0_t1_loop.trips).1 S32x128.size (by sl_kernel_rfl) y

/-- The decoded weight after the loop, over any contents. -/
theorem rebase_t1 (f : BufTy.Contents (Elt F) arg12.view.ty) (g : BufTy.Contents (Elt F) arg14.view.ty) :
    arg12.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g k0_t1_loop.trips).1
      = arg12.view.writes (Elt F) arg12.view.junk (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 arg12.view.junk g k0_t1_loop.trips).1 := by
  rw [pb_t1_free 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f arg12.view.junk]
  exact writes_rebase arg12 harg12 _ _ _ (cover_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 _ _)

end Decode

section Quantise

variable (v0 : Elt F .f32) (X_arg3 : BufTy.Contents (Elt F) arg3.view.ty)

/-- The quantising loop's pieces cover the quantised block. -/
theorem cover_t2 (y : S256x1536.Idx) :
    ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2, y ∈ p.1.set :=
  View.cover_of_tiledL (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2 S32x128.size (by sl_kernel_rfl) y

/-- The quantised block after the loop, over any contents. -/
theorem rebase_t2 (f : BufTy.Contents (Elt F) arg13.view.ty) :
    arg13.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2
      = arg13.view.writes (Elt F) arg13.view.junk (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2 :=
  writes_rebase arg13 harg13 _ _ _ (cover_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3)

end Quantise

end Cert.KernelIdeal.Gen

end
-- ==== Proof.KernelIdealFrame.RunA.lean ====
module

public import proofs.«01_k».proof.Proof.KernelIdealFrame.Rebase

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref (and in the carried scratch), as pieces, last first, with
    the proof that the body runs to a continuation holding them. The two scratch buffers that loops fill are restated over no
    particular contents before the pieces are named. -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) :
    Σ' (L8 : List (View.Piece (Elt F) S256x6144 .bf16)), Σ' (L9 : List (View.Piece (Elt F) S256x768 .i8)), Σ' (L10 : List (View.Piece (Elt F) S256x96 .fp8e4m3)), { LS0 : List (View.Piece (Elt F) S6144x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d)) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_nvfp4_dgrad_eq_skeleton]; unfold cc0_nvfp4_dgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    rw [rebase_t1, rebase_t2]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    isplitl [HS1]
    · iexists _, _; isplitr; swap; · iexact HS1
      ipureintro; rfl
    iexists _, _; isplitr; swap; · iexact HS2
    ipureintro; rfl

end Cert.KernelIdeal.Gen

end
-- ==== Proof.KernelIdealFrame.RunB.lean ====
module

public import proofs.«01_k».proof.Proof.KernelIdealFrame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref (and in the carried scratch), as pieces, last first, with
    the proof that the body runs to a continuation holding them. The two scratch buffers that loops fill are restated over no
    particular contents before the pieces are named. -/
noncomputable def kernelRun0_B (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) :
    Σ' (L8 : List (View.Piece (Elt F) S256x6144 .bf16)), Σ' (L9 : List (View.Piece (Elt F) S256x768 .i8)), Σ' (L10 : List (View.Piece (Elt F) S256x96 .fp8e4m3)), { LS0 : List (View.Piece (Elt F) S6144x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xs0 ∗ (∃ d, owns (c : Thread nD τ) arg13 fullShare d) ∗ (∃ d, owns (c : Thread nD τ) arg14 fullShare d)) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, [], fun E K => ?run⟩
  case run =>
    simp only [cc0_nvfp4_dgrad_eq_skeleton]; unfold cc0_nvfp4_dgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0)
    rw [rebase_t2]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]
    · iexists _; isplitr; · ipureintro; exact harg12.read_unread _
      iexact HS0
    isplitl [HS1]
    · iexists _, _; isplitr; swap; · iexact HS1
      ipureintro; rfl
    iexists _, _; isplitr; swap; · iexact HS2
    ipureintro; rfl

end Cert.KernelIdeal.Gen

end
-- ==== Proof.KernelIdealFrame.Frame.lean ====
module

public import proofs.«01_k».proof.Proof.KernelIdealFrame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (12 stores of `S256x512`, checked by the kernel's evaluation: Lib/Ring.lean `Piece.tiledL`, linear in the pieces, through a loop's `@[irreducible]` trip theorem too), so they cover it. -/
theorem cover0_A_8 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (y : S256x6144.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S256x512.size (by sl_kernel_rfl) y

/-- What case A leaves in output 8's staging buffer: its pieces read back over junk. -/
def out0_A_8 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) : Vec F S256x6144 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- Case A's pieces for output 9 tile its block (48 stores of `S32x128`, checked by the kernel's evaluation: Lib/Ring.lean `Piece.tiledL`, linear in the pieces, through a loop's `@[irreducible]` trip theorem too), so they cover it. -/
theorem cover0_A_9 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 S32x128.size (by sl_kernel_rfl) y

/-- What case A leaves in output 9's staging buffer: its pieces read back over junk. -/
def out0_A_9 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) : Vec F S256x768 .i8 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

/-- Case A's pieces for output 10 tile its block (8 stores of `S32x96`, checked by the kernel's evaluation: Lib/Ring.lean `Piece.tiledL`, linear in the pieces, through a loop's `@[irreducible]` trip theorem too), so they cover it. -/
theorem cover0_A_10 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (y : S256x96.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 S32x96.size (by sl_kernel_rfl) y

/-- What case A leaves in output 10's staging buffer: its pieces read back over junk. -/
def out0_A_10 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) : Vec F S256x96 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

/-- Case A's pieces for scratch `arg12`, which the kernel carries between points, cover it: 2304 pieces of `S32x128` tiling it (Lib/Ring.lean `Piece.tiledL`). -/
theorem scover0_A_0 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (y : S6144x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 S32x128.size (by sl_kernel_rfl) y

/-- What case A leaves in scratch `arg12`: its pieces read back over junk. -/
def sout0_A_0 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) : Vec F S6144x1536 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1)

/-- Case B's pieces for output 8 tile its block (12 stores of `S256x512`, checked by the kernel's evaluation: Lib/Ring.lean `Piece.tiledL`, linear in the pieces, through a loop's `@[irreducible]` trip theorem too), so they cover it. -/
theorem cover0_B_8 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) (y : S256x6144.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1 S256x512.size (by sl_kernel_rfl) y

/-- What case B leaves in output 8's staging buffer: its pieces read back over junk. -/
def out0_B_8 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) : Vec F S256x6144 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1)

/-- Case B's pieces for output 9 tile its block (48 stores of `S32x128`, checked by the kernel's evaluation: Lib/Ring.lean `Piece.tiledL`, linear in the pieces, through a loop's `@[irreducible]` trip theorem too), so they cover it. -/
theorem cover0_B_9 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) (y : S256x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1 S32x128.size (by sl_kernel_rfl) y

/-- What case B leaves in output 9's staging buffer: its pieces read back over junk. -/
def out0_B_9 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) : Vec F S256x768 .i8 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1)

/-- Case B's pieces for output 10 tile its block (8 stores of `S32x96`, checked by the kernel's evaluation: Lib/Ring.lean `Piece.tiledL`, linear in the pieces, through a loop's `@[irreducible]` trip theorem too), so they cover it. -/
theorem cover0_B_10 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) (y : S256x96.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.1 S32x96.size (by sl_kernel_rfl) y

/-- What case B leaves in output 10's staging buffer: its pieces read back over junk. -/
def out0_B_10 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) : Vec F S256x96 .fp8e4m3 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.1)

/-- Case B stores nothing into scratch `arg12`: it holds what the point before left. -/
def sout0_B_0 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) : Vec F S6144x1536 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x6144 .bf16 × Vec F S256x768 .i8 × Vec F S256x96 .fp8e4m3 × Vec F S6144x1536 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 24 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)

/-- `outsAt0` at a point of case A: that case's contents. -/
theorem outsAt0_A (c : Dev nD) (t : Fin cfg0.N) (h0 : t.val % 24 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 24 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 24 := lt_of_lt_of_eq t.isLt (show cfg0.N = 24 from N_0)
  by_cases h0 : t.val % 24 = 0
  · by_cases hz : t.val = 0
    · rw [PhiS_castSucc m c t, PhiS_zero m c _ _ hz, PhiA0_eq]
      rw [outsAt0_A m c t h0]
      unfold out0_A_8 out0_A_9 out0_A_10 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, H6, H7, ⟨%e8, H8⟩, ⟨%e9, H9⟩, ⟨%e10, H10⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _)
    · exfalso; have hN : t.val < 24 := lt_of_lt_of_eq t.isLt (show cfg0.N = 24 from N_0); omega
  · by_cases hz : t.val = 0
    · exfalso; have hN : t.val < 24 := lt_of_lt_of_eq t.isLt (show cfg0.N = 24 from N_0); omega
    · rw [PhiS_castSucc m c t, PhiS_pos m c _ _ hz]
      rw [outsAt0_B m c t h0]
      unfold out0_B_8 out0_B_9 out0_B_10 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, H6, H7, ⟨%e8, H8⟩, ⟨%e9, H9⟩, ⟨%e10, H10⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Blocks.lean ====
module

public import proofs.«01_k».proof.Proof.Products
public import proofs.«01_k».proof.Proof.KernelIdealFrame.Frame

@[expose] public section

set_option maxRecDepth 16384

/-! # What a grid point leaves in its blocks -/

noncomputable section

namespace Cert.KernelIdeal.Gen

open Idealize.ShloMosaic hiding ix0 ix1 ix2 ix3
open Idealize.ShloMosaic.TcCoe Idealize.ShloMosaic.ValueIdx
open Cert.KernelIdeal Cert.KernelIdeal.Gen Cert.KernelIdeal.Gen.Slab Nvfp4

/-- The scalar a one-element block holds. -/
abbrev one (x : Vec Ideal S1 .f32) : EReal := x (ix1 (0 : Fin 1))

/-- A row of a matrix. -/
abbrev row {α : Type} {a b : ℕ} (x : (⟨2, ![a, b]⟩ : Shape).Idx → α) (r : Fin a) (j : Fin b) : α := x (ix2 r j)

theorem rowOf_unread {sp : Space} {e : EltTy} {a b : ℕ} (m : Memref sig .tc sp ⟨2, ![a, b]⟩ e) (h : m.IsWhole) (x : Vec Ideal ⟨2, ![a, b]⟩ e) :
    rowOf m (h.unread x) = row x := by
  funext r j
  exact congrFun (h.read_unread x) (ix2 r j)

theorem read_one (arg1 : Memref sig .tc .smem S1 .f32) (harg1 : arg1.IsWhole) (x0 : Vec Ideal S1 .f32) :
    View.readAt (Elt Ideal) arg1.view (Rect.unit ![0] S1.size inb_S1_S1_0).toLoadRect (harg1.unread x0) (Shape.Idx.first (by decide)) = one x0 := by
  have h : ∀ f : S1.Idx → EReal, ∀ y : S1.Idx, f y = f (ix1 (0 : Fin 1)) := fun f y => congrArg f (funext fun a => match a with
    | ⟨0, _⟩ => Subsingleton.elim (α := Fin 1) _ _)
  exact (h (arg1.view.read (Elt Ideal) (harg1.unread x0)) _).trans (congrFun (harg1.read_unread x0) _)

theorem sl_r_A {c : Dev nD} {arg1 : Memref sig .tc .smem S1 .f32} {harg1 : arg1.IsWhole} {x0 : Vec Ideal S1 .f32} :
    kernelRun0_A.sl.r (F := Ideal) c arg1 harg1 x0 = one x0 := read_one arg1 harg1 x0

theorem sl_r_1_A {c : Dev nD} {arg2 : Memref sig .tc .smem S1 .f32} {harg2 : arg2.IsWhole} {x1 : Vec Ideal S1 .f32} :
    kernelRun0_A.sl.r_1 (F := Ideal) c arg2 harg2 x1 = one x1 := read_one arg2 harg2 x1

/-- The codes. -/
theorem codes_A (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)     (x0 : Vec Ideal S1 .f32) (x1 : Vec Ideal S1 .f32) (x2 : Vec Ideal S256x1536 .bf16) (x3 : Vec Ideal S1x6144 .f32) (x4 : Vec Ideal S6144x768 .i8) (x5 : Vec Ideal S6144x96 .fp8e4m3) (x6 : Vec Ideal S16x6144 .bf16) (x7 : Vec Ideal S16x1536 .bf16) (hg : one x0 ≠ 0) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = fun y : S256x768.Idx => packS (one x0) (row x2 (y 0)) (y 1) := by
  funext y
  unfold out0_A_9
  refine View.read_writes_apply_of_pieces VO0_9 VO0_9.junk (fun y : S256x768.Idx => packS (one x0) (row x2 (y 0)) (y 1)) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  unfold kernelRun0_A
  dsimp only
  intro p hp x
  obtain ⟨k, hk⟩ := (mem_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _).1 p hp
  have h := codes_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ k (by rw [sl_r_A]; exact hg) p hk x
  rw [sl_r_A, rowOf_unread] at h
  exact h

/-- The scales. -/
theorem scales_A (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)     (x0 : Vec Ideal S1 .f32) (x1 : Vec Ideal S1 .f32) (x2 : Vec Ideal S256x1536 .bf16) (x3 : Vec Ideal S1x6144 .f32) (x4 : Vec Ideal S6144x768 .i8) (x5 : Vec Ideal S6144x96 .fp8e4m3) (x6 : Vec Ideal S16x6144 .bf16) (x7 : Vec Ideal S16x1536 .bf16) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = fun y : S256x96.Idx => sclS (one x0) (row x2 (y 0)) (y 1) := by
  funext y
  unfold out0_A_10
  refine View.read_writes_apply_of_pieces VO0_10 VO0_10.junk (fun y : S256x96.Idx => sclS (one x0) (row x2 (y 0)) (y 1)) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  unfold kernelRun0_A
  dsimp only
  intro p hp x
  obtain ⟨k, hk⟩ := (mem_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _).2.1 p hp
  have h := scales_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ k p hk x
  rw [sl_r_A, rowOf_unread] at h
  exact h

/-- The decoded weight, carried to the later points. -/
theorem weight_A (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)     (x0 : Vec Ideal S1 .f32) (x1 : Vec Ideal S1 .f32) (x2 : Vec Ideal S256x1536 .bf16) (x3 : Vec Ideal S1x6144 .f32) (x4 : Vec Ideal S6144x768 .i8) (x5 : Vec Ideal S6144x96 .fp8e4m3) (x6 : Vec Ideal S16x6144 .bf16) (x7 : Vec Ideal S16x1536 .bf16) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = fun y : S6144x1536.Idx => decS (row x4 (y 0)) (row x5 (y 0)) (kcol (y 1)) := by
  funext y
  unfold sout0_A_0
  refine View.read_writes_apply_of_pieces VS0_0 VS0_0.junk (fun y : S6144x1536.Idx => decS (row x4 (y 0)) (row x5 (y 0)) (kcol (y 1))) _ ?_ y (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  unfold kernelRun0_A
  dsimp only
  intro p hp x
  obtain ⟨k, f12, f14, hk⟩ := mem_t1 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ p hp
  have h := wq_t1 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ k f12 f14 p hk x
  unfold wqG at h
  rw [rowOf_unread, rowOf_unread] at h
  exact h

/-- The products. -/
theorem dx_A (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)     (x0 : Vec Ideal S1 .f32) (x1 : Vec Ideal S1 .f32) (x2 : Vec Ideal S256x1536 .bf16) (x3 : Vec Ideal S1x6144 .f32) (x4 : Vec Ideal S6144x768 .i8) (x5 : Vec Ideal S6144x96 .fp8e4m3) (x6 : Vec Ideal S16x6144 .bf16) (x7 : Vec Ideal S16x1536 .bf16) (hg : one x0 ≠ 0) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = fun y : S256x6144.Idx => dxOf (J := Fin 1536) (fun k => deqS (one x0) (row x2 (y 0)) (kcol k)) (fun k => decS (row x4 (y 1)) (row x5 (y 1)) (kcol k)) (one x0 * one x1)
      (row x2 (y 0)) (row x7) (fun r => row x6 r (y 1)) (row x3 (0 : Fin 1) (y 1)) := by
  funext y
  unfold out0_A_8
  refine View.read_writes_apply_of_pieces VO0_8 VO0_8.junk (fun y : S256x6144.Idx => dxOf (J := Fin 1536) (fun k => deqS (one x0) (row x2 (y 0)) (kcol k)) (fun k => decS (row x4 (y 1)) (row x5 (y 1)) (kcol k)) (one x0 * one x1)
      (row x2 (y 0)) (row x7) (fun r => row x6 r (y 1)) (row x3 (0 : Fin 1) (y 1))) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  unfold kernelRun0_A
  dsimp only
  intro p hp x
  obtain ⟨k, hk⟩ := mem_t3 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ p hp
  have h := dx_t3 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ k p hk x
  refine h.trans ?_
  generalize p.1.emb x = z
  dsimp only
  refine dxOf_congr ?_ ?_ ?_ ?_ ?_ ?_ ?_
  · funext k
    refine (View.read_writes_apply_of_pieces (Val := Elt Ideal) arg13.view arg13.view.junk (fun y : S256x1536.Idx => deqS (one x0) (row x2 (y 0)) (kcol (y 1))) _ ?_ (ix2 (z 0) k)
      (cover_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _))
    intro p hp x
    obtain ⟨k, hk⟩ := (mem_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _).2.2 p hp
    have h := deq_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ k (by rw [sl_r_A]; exact hg) p hk x
    rw [sl_r_A, rowOf_unread] at h
    exact h
  · funext k
    refine (View.read_writes_apply_of_pieces (Val := Elt Ideal) arg12.view arg12.view.junk (fun y : S6144x1536.Idx => decS (row x4 (y 0)) (row x5 (y 0)) (kcol (y 1))) _ ?_ (ix2 (z 1) k)
      (cover_t1 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _))
    intro p hp x
    obtain ⟨k, f12, f14, hk⟩ := mem_t1 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ p hp
    have h := wq_t1 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ k f12 f14 p hk x
    unfold wqG at h
    rw [rowOf_unread, rowOf_unread] at h
    exact h
  · rw [sl_r_A, sl_r_1_A]
  · funext j
    exact (readAt_unit arg3.view (Elt Ideal) _ inb_S256x1536_S256x1536_0_0 (o0 := 0) (o1 := 0) rfl (z 0) j (z 0) j (Nat.zero_add _).symm (Nat.zero_add _).symm).trans
      (congrFun (congrFun (rowOf_unread arg3 harg3 x2) _) _)
  · funext r j
    exact (readAt_unit arg8.view (Elt Ideal) _ inb_S16x1536_S16x1536_0_0 (o0 := 0) (o1 := 0) rfl r j r j (Nat.zero_add _).symm (Nat.zero_add _).symm).trans
      (congrFun (congrFun (rowOf_unread arg8 harg8 x7) _) _)
  · funext r
    exact congrFun (congrFun (rowOf_unread arg7 harg7 x6) _) _
  · exact congrFun (congrFun (rowOf_unread arg4 harg4 x3) _) _

theorem sl_r_B {c : Dev nD} {arg1 : Memref sig .tc .smem S1 .f32} {harg1 : arg1.IsWhole} {x0 : Vec Ideal S1 .f32} :
    kernelRun0_B.sl.r (F := Ideal) c arg1 harg1 x0 = one x0 := read_one arg1 harg1 x0

theorem sl_r_1_B {c : Dev nD} {arg2 : Memref sig .tc .smem S1 .f32} {harg2 : arg2.IsWhole} {x1 : Vec Ideal S1 .f32} :
    kernelRun0_B.sl.r_1 (F := Ideal) c arg2 harg2 x1 = one x1 := read_one arg2 harg2 x1

/-- The codes. -/
theorem codes_B (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)     (x0 : Vec Ideal S1 .f32) (x1 : Vec Ideal S1 .f32) (x2 : Vec Ideal S256x1536 .bf16) (x3 : Vec Ideal S1x6144 .f32) (x4 : Vec Ideal S6144x768 .i8) (x5 : Vec Ideal S6144x96 .fp8e4m3) (x6 : Vec Ideal S16x6144 .bf16) (x7 : Vec Ideal S16x1536 .bf16) (xs0 : Vec Ideal S6144x1536 .bf16) (hg : one x0 ≠ 0) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = fun y : S256x768.Idx => packS (one x0) (row x2 (y 0)) (y 1) := by
  funext y
  unfold out0_B_9
  refine View.read_writes_apply_of_pieces VO0_9 VO0_9.junk (fun y : S256x768.Idx => packS (one x0) (row x2 (y 0)) (y 1)) _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 y)
  unfold kernelRun0_B
  dsimp only
  intro p hp x
  obtain ⟨k, hk⟩ := (mem_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _).1 p hp
  have h := codes_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ k (by rw [sl_r_B]; exact hg) p hk x
  rw [sl_r_B, rowOf_unread] at h
  exact h

/-- The scales. -/
theorem scales_B (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)     (x0 : Vec Ideal S1 .f32) (x1 : Vec Ideal S1 .f32) (x2 : Vec Ideal S256x1536 .bf16) (x3 : Vec Ideal S1x6144 .f32) (x4 : Vec Ideal S6144x768 .i8) (x5 : Vec Ideal S6144x96 .fp8e4m3) (x6 : Vec Ideal S16x6144 .bf16) (x7 : Vec Ideal S16x1536 .bf16) (xs0 : Vec Ideal S6144x1536 .bf16) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = fun y : S256x96.Idx => sclS (one x0) (row x2 (y 0)) (y 1) := by
  funext y
  unfold out0_B_10
  refine View.read_writes_apply_of_pieces VO0_10 VO0_10.junk (fun y : S256x96.Idx => sclS (one x0) (row x2 (y 0)) (y 1)) _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 y)
  unfold kernelRun0_B
  dsimp only
  intro p hp x
  obtain ⟨k, hk⟩ := (mem_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _).2.1 p hp
  have h := scales_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ k p hk x
  rw [sl_r_B, rowOf_unread] at h
  exact h

/-- The products. -/
theorem dx_B (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)     (x0 : Vec Ideal S1 .f32) (x1 : Vec Ideal S1 .f32) (x2 : Vec Ideal S256x1536 .bf16) (x3 : Vec Ideal S1x6144 .f32) (x4 : Vec Ideal S6144x768 .i8) (x5 : Vec Ideal S6144x96 .fp8e4m3) (x6 : Vec Ideal S16x6144 .bf16) (x7 : Vec Ideal S16x1536 .bf16) (xs0 : Vec Ideal S6144x1536 .bf16) (hg : one x0 ≠ 0) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = fun y : S256x6144.Idx => dxOf (J := Fin 1536) (fun k => deqS (one x0) (row x2 (y 0)) (kcol k)) (row xs0 (y 1)) (one x0 * one x1)
      (row x2 (y 0)) (row x7) (fun r => row x6 r (y 1)) (row x3 (0 : Fin 1) (y 1)) := by
  funext y
  unfold out0_B_8
  refine View.read_writes_apply_of_pieces VO0_8 VO0_8.junk (fun y : S256x6144.Idx => dxOf (J := Fin 1536) (fun k => deqS (one x0) (row x2 (y 0)) (kcol k)) (row xs0 (y 1)) (one x0 * one x1)
      (row x2 (y 0)) (row x7) (fun r => row x6 r (y 1)) (row x3 (0 : Fin 1) (y 1))) _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 y)
  unfold kernelRun0_B
  dsimp only
  intro p hp x
  obtain ⟨k, hk⟩ := mem_t3 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ p hp
  have h := dx_t3 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ k p hk x
  refine h.trans ?_
  generalize p.1.emb x = z
  dsimp only
  refine dxOf_congr ?_ ?_ ?_ ?_ ?_ ?_ ?_
  · funext k
    refine (View.read_writes_apply_of_pieces (Val := Elt Ideal) arg13.view arg13.view.junk (fun y : S256x1536.Idx => deqS (one x0) (row x2 (y 0)) (kcol (y 1))) _ ?_ (ix2 (z 0) k)
      (cover_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _))
    intro p hp x
    obtain ⟨k, hk⟩ := (mem_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _).2.2 p hp
    have h := deq_t2 _ _ _ _ arg1 harg1 arg2 harg2 arg3 harg3 arg4 harg4 arg5 harg5 arg6 harg6 arg7 harg7 arg8 harg8 arg9 harg9 arg10 harg10 arg11 harg11 arg12 harg12 arg13 harg13 arg14 harg14 _ _ k (by rw [sl_r_B]; exact hg) p hk x
    rw [sl_r_B, rowOf_unread] at h
    exact h
  · exact congrFun (rowOf_unread arg12 harg12 xs0) _
  · rw [sl_r_B, sl_r_1_B]
  · funext j
    exact (readAt_unit arg3.view (Elt Ideal) _ inb_S256x1536_S256x1536_0_0 (o0 := 0) (o1 := 0) rfl (z 0) j (z 0) j (Nat.zero_add _).symm (Nat.zero_add _).symm).trans
      (congrFun (congrFun (rowOf_unread arg3 harg3 x2) _) _)
  · funext r j
    exact (readAt_unit arg8.view (Elt Ideal) _ inb_S16x1536_S16x1536_0_0 (o0 := 0) (o1 := 0) rfl r j r j (Nat.zero_add _).symm (Nat.zero_add _).symm).trans
      (congrFun (congrFun (rowOf_unread arg8 harg8 x7) _) _)
  · funext r
    exact congrFun (congrFun (rowOf_unread arg7 harg7 x6) _) _
  · exact congrFun (congrFun (rowOf_unread arg4 harg4 x3) _) _

end Cert.KernelIdeal.Gen
-- ==== Proof.KernelIdealFrame.Value.lean ====
module

public import proofs.«01_k».proof.Proof.KernelIdealFrame.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 24 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 24 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  simp only [flushed8, outsAt0_B m c t h0]

/-- The index map sends distinct grid points to distinct block indices (decided over the 24 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S6144x6144.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 24 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 24 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  simp only [flushed9, outsAt0_B m c t h0]

/-- The index map sends distinct grid points to distinct block indices (decided over the 24 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S6144x768.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 24 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 24 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  simp only [flushed10, outsAt0_B m c t h0]

/-- The index map sends distinct grid points to distinct block indices (decided over the 24 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S6144x96.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_2) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 8 cfg0.N
      ∧ r.2.mem ((c : Thread nD τ).loc main_v5_1) = (dats m 0 c).arrAt 9 cfg0.N
      ∧ r.2.mem ((c : Thread nD τ).loc main_v5_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S6144x1536 .bf16) : Vec F S6144x1536 .bf16 :=
  if h0 : n % 24 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc

/-- WHAT CARRIED SCRATCH 0 HOLDS after point `t`: the fold of its run up to `t`, from the reset at the run's first point
    `24·(t / 24)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (24 * (t.val / 24)) (t.val % 24)
      (by have h1 := t.isLt; have h2 := Nat.div_add_mod t.val 24; omega) :=
  Pipeline.eq_accAt_of_mod (fun n h => (outsAt0 m c n h).2.2.2) 24 (fun n h => scAt0_0 m c n h (VS0_0.read (Elt F) VS0_0.junk)) (scAt0_0 m c)
    (fun n h hn => by
      have hN := lt_of_lt_of_eq h (show cfg0.N = 24 from N_0)
      by_cases h0 : n % 24 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 24 from N_0)
      by_cases h0 : (n + 1) % 24 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 24 from N_0)
  have hd : n / 24 = 0 := Nat.div_eq_of_lt hN
  have hm : n % 24 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x6144 .bf16 × Vec F S256x768 .i8 × Vec F S256x96 .fp8e4m3 × Vec F S6144x1536 .bf16 :=
  ((VO0_8.read (Elt F) VO0_8.junk, VO0_9.read (Elt F) VO0_9.junk, VO0_10.read (Elt F) VO0_10.junk, VS0_0.read (Elt F) VS0_0.junk) : Vec F S256x6144 .bf16 × Vec F S256x768 .i8 × Vec F S256x96 .fp8e4m3 × Vec F S6144x1536 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x6144 .bf16 × Vec F S256x768 .i8 × Vec F S256x96 .fp8e4m3 × Vec F S6144x1536 .bf16) : Vec F S256x6144 .bf16 × Vec F S256x768 .i8 × Vec F S256x96 .fp8e4m3 × Vec F S6144x1536 .bf16 :=
  if h0 : n % 24 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2)

/-- `stAt0` at a point of case A: that case's contents. -/
theorem stAt0_A (c : Dev nD) (t : Fin cfg0.N) (acc : Vec F S256x6144 .bf16 × Vec F S256x768 .i8 × Vec F S256x96 .fp8e4m3 × Vec F S6144x1536 .bf16) (h0 : t.val % 24 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S256x6144 .bf16 × Vec F S256x768 .i8 × Vec F S256x96 .fp8e4m3 × Vec F S6144x1536 .bf16) (h0 : ¬t.val % 24 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 24 from N_0)
  have e := Pipeline.eq_accAt_of_mod (fun n h => outsAt0 m c n h) 24 (fun n h => stAt0 m c n h junk0) (stAt0 m c)
    (fun n h _ => by
      have hN := lt_of_lt_of_eq h (show cfg0.N = 24 from N_0)
      obtain rfl : n = 0 := by omega
      exact outsAt0_zero m c h)
    (fun n h _ => outsAt0_succ m c n h)
    (by decide) n hn (by have := Nat.div_add_mod n 24; omega)
  have hd : n / 24 = 0 := Nat.div_eq_of_lt hN
  have hm : n % 24 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S6144x6144.Idx) : ℕ := 1 * ((i 0).val / 256 - 0) + 1 * ((i 1).val / 6144 - 0)
set_option backward.proofsInPublic true in
abbrev loc8Of (i : S6144x6144.Idx) : S256x6144.Idx := fun a => match a with
  | ⟨0, _⟩ => ⟨(i 0).val % 256, Nat.mod_lt _ (by decide)⟩
  | ⟨1, _⟩ => ⟨(i 1).val % 6144, Nat.mod_lt _ (by decide)⟩
abbrev pt8Of (i : S6144x6144.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v5_0) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 23
    ∧ 0 ≤ win0_8.index t (1 : Fin 2) ∧ win0_8.index t (1 : Fin 2) ≤ 0
    ∧ 1 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 24) (q1 : Fin 1) : Fin grid0.N :=
  ⟨1 * q0.val + 1 * q1.val, lt_of_lt_of_eq (by omega) N_0.symm⟩
theorem idx_onto8 : ∀ (q0 : Fin 24) (q1 : Fin 1), ∃ t : Fin cfg0.N, (cfg0.win 8).flush t = true ∧ win0_8.index t = ![q0.val + 0, q1.val + 0] :=
  fun q0 q1 => ⟨onto8Pt q0 q1, (by decide +kernel : ∀ (q0 : Fin 24) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 256 := (y 0).isLt
  have hy1 : (y 1).val < 6144 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 6144 + 1 * (y 1).val := rfl
  have hr : run8Of (((cfg0.win 8).blk t).view.emb y) = t.val := by
    show 1 * ((((cfg0.win 8).blk t).view.emb y 0).val / 256 - 0) + 1 * ((((cfg0.win 8).blk t).view.emb y 1).val / 6144 - 0) = _
    rw [hb0, hb1]
    rw [show (win0_8.index t (0 : Fin 2) * 256 + 1 * (y 0).val) / 256 = win0_8.index t (0 : Fin 2) from by omega]; rw [show (win0_8.index t (1 : Fin 2) * 6144 + 1 * (y 1).val) / 6144 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 256 = (y 0).val; rw [hb0]; omega
    | ⟨1, _⟩ => show (((cfg0.win 8).blk t).view.emb y 1).val % 6144 = (y 1).val; rw [hb1]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S6144x6144.Idx) :
    i ∈ ((cfg0.win 8).blk t).view.set ↔ ∀ a : Fin 2, win0_8.index t a * S256x6144.size a ≤ (i a).val ∧ (i a).val < win0_8.index t a * S256x6144.size a + S256x6144.size a := by
  show i ∈ ((View.whole main_v5_0).slice (win0_8.rect t)).set ↔ _
  rw [View.set_slice_whole, Rect.mem_set_unit]
  exact Iff.rfl

/-- THE COVERED INDICES: in some flushing point's block iff inside the box those blocks fill. -/
theorem covered_iff8 (i : S6144x6144.Idx) :
    (∃ t : Fin cfg0.N, (cfg0.win 8).flush t = true ∧ i ∈ ((cfg0.win 8).blk t).view.set) ↔ 0 ≤ (i 0).val ∧ (i 0).val < 6144 ∧ 0 ≤ (i 1).val ∧ (i 1).val < 6144 := by
  constructor
  · rintro ⟨t, -, hi⟩
    rw [mem_blk8] at hi
    have b0 : win0_8.index t (0 : Fin 2) * 256 ≤ (i 0).val ∧ (i 0).val < win0_8.index t (0 : Fin 2) * 256 + 256 := hi 0
    have b1 : win0_8.index t (1 : Fin 2) * 6144 ≤ (i 1).val ∧ (i 1).val < win0_8.index t (1 : Fin 2) * 6144 + 6144 := hi 1
    obtain ⟨e0, e1, e2⟩ := idx_facts8 t
    omega
  · intro h
    have hi0 : (i 0).val < 6144 := (i 0).isLt
    have hi1 : (i 1).val < 6144 := (i 1).isLt
    obtain ⟨t, hft, ht⟩ := idx_onto8 ⟨(i 0).val / 256 - 0, by omega⟩ ⟨(i 1).val / 6144 - 0, by omega⟩
    have q0 : win0_8.index t (0 : Fin 2) = (i 0).val / 256 - 0 + 0 := congrFun ht 0
    have q1 : win0_8.index t (1 : Fin 2) = (i 1).val / 6144 - 0 + 0 := congrFun ht 1
    refine ⟨t, hft, ?_⟩
    rw [mem_blk8]
    intro a
    match a with
    | ⟨0, _⟩ => show win0_8.index t (0 : Fin 2) * 256 ≤ (i 0).val ∧ (i 0).val < win0_8.index t (0 : Fin 2) * 256 + 256; omega
    | ⟨1, _⟩ => show win0_8.index t (1 : Fin 2) * 6144 ≤ (i 1).val ∧ (i 1).val < win0_8.index t (1 : Fin 2) * 6144 + 6144; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 6144 := (i 0).isLt; have h1 : (i 1).val < 6144 := (i 1).isLt; omega))

/-! ## Output window 9 -/

/-- The block of the array that holds index `i`, numbered in the order the points write the blocks back (one per point),
    `i`'s place in it, and the point that writes it back. -/
abbrev run9Of (i : S6144x768.Idx) : ℕ := 1 * ((i 0).val / 256 - 0) + 1 * ((i 1).val / 768 - 0)
set_option backward.proofsInPublic true in
abbrev loc9Of (i : S6144x768.Idx) : S256x768.Idx := fun a => match a with
  | ⟨0, _⟩ => ⟨(i 0).val % 256, Nat.mod_lt _ (by decide)⟩
  | ⟨1, _⟩ => ⟨(i 1).val % 768, Nat.mod_lt _ (by decide)⟩
abbrev pt9Of (i : S6144x768.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v5_1) := fun i =>
  if h : pt9Of i < cfg0.N then
    (Pipeline.accAt (fun n h => stAt0 m c n h junk0) (stAt0 m c) 0 (pt9Of i) (by omega)).2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 2) ∧ win0_9.index t (0 : Fin 2) ≤ 23
    ∧ 0 ≤ win0_9.index t (1 : Fin 2) ∧ win0_9.index t (1 : Fin 2) ≤ 0
    ∧ 1 * (win0_9.index t (0 : Fin 2) - 0) + 1 * (win0_9.index t (1 : Fin 2) - 0) = t.val :=
  (by decide +kernel : ∀ t : Fin grid0.N, _)

/-- Every block of the box is SOME flushing point's: `onto9Pt`, the point that writes back the block at place `q` of the box. -/
abbrev onto9Pt (q0 : Fin 24) (q1 : Fin 1) : Fin grid0.N :=
  ⟨1 * q0.val + 1 * q1.val, lt_of_lt_of_eq (by omega) N_0.symm⟩
theorem idx_onto9 : ∀ (q0 : Fin 24) (q1 : Fin 1), ∃ t : Fin cfg0.N, (cfg0.win 9).flush t = true ∧ win0_9.index t = ![q0.val + 0, q1.val + 0] :=
  fun q0 q1 => ⟨onto9Pt q0 q1, (by decide +kernel : ∀ (q0 : Fin 24) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2⟩ := idx_facts9 t
  funext y
  have hy0 : (y 0).val < 256 := (y 0).isLt
  have hy1 : (y 1).val < 768 := (y 1).isLt
  have hb0 : (((cfg0.win 9).blk t).view.emb y 0).val = win0_9.index t (0 : Fin 2) * 256 + 1 * (y 0).val := rfl
  have hb1 : (((cfg0.win 9).blk t).view.emb y 1).val = win0_9.index t (1 : Fin 2) * 768 + 1 * (y 1).val := rfl
  have hr : run9Of (((cfg0.win 9).blk t).view.emb y) = t.val := by
    show 1 * ((((cfg0.win 9).blk t).view.emb y 0).val / 256 - 0) + 1 * ((((cfg0.win 9).blk t).view.emb y 1).val / 768 - 0) = _
    rw [hb0, hb1]
    rw [show (win0_9.index t (0 : Fin 2) * 256 + 1 * (y 0).val) / 256 = win0_9.index t (0 : Fin 2) from by omega]; rw [show (win0_9.index t (1 : Fin 2) * 768 + 1 * (y 1).val) / 768 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 256 = (y 0).val; rw [hb0]; omega
    | ⟨1, _⟩ => show (((cfg0.win 9).blk t).view.emb y 1).val % 768 = (y 1).val; rw [hb1]; omega
  have hp : pt9Of (((cfg0.win 9).blk t).view.emb y) = t.val := by
    exact hr
  show (Pipeline.accAt (fun n h => stAt0 m c n h junk0) (stAt0 m c) 0 t.val _).2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S6144x768.Idx) :
    i ∈ ((cfg0.win 9).blk t).view.set ↔ ∀ a : Fin 2, win0_9.index t a * S256x768.size a ≤ (i a).val ∧ (i a).val < win0_9.index t a * S256x768.size a + S256x768.size a := by
  show i ∈ ((View.whole main_v5_1).slice (win0_9.rect t)).set ↔ _
  rw [View.set_slice_whole, Rect.mem_set_unit]
  exact Iff.rfl

/-- THE COVERED INDICES: in some flushing point's block iff inside the box those blocks fill. -/
theorem covered_iff9 (i : S6144x768.Idx) :
    (∃ t : Fin cfg0.N, (cfg0.win 9).flush t = true ∧ i ∈ ((cfg0.win 9).blk t).view.set) ↔ 0 ≤ (i 0).val ∧ (i 0).val < 6144 ∧ 0 ≤ (i 1).val ∧ (i 1).val < 768 := by
  constructor
  · rintro ⟨t, -, hi⟩
    rw [mem_blk9] at hi
    have b0 : win0_9.index t (0 : Fin 2) * 256 ≤ (i 0).val ∧ (i 0).val < win0_9.index t (0 : Fin 2) * 256 + 256 := hi 0
    have b1 : win0_9.index t (1 : Fin 2) * 768 ≤ (i 1).val ∧ (i 1).val < win0_9.index t (1 : Fin 2) * 768 + 768 := hi 1
    obtain ⟨e0, e1, e2⟩ := idx_facts9 t
    omega
  · intro h
    have hi0 : (i 0).val < 6144 := (i 0).isLt
    have hi1 : (i 1).val < 768 := (i 1).isLt
    obtain ⟨t, hft, ht⟩ := idx_onto9 ⟨(i 0).val / 256 - 0, by omega⟩ ⟨(i 1).val / 768 - 0, by omega⟩
    have q0 : win0_9.index t (0 : Fin 2) = (i 0).val / 256 - 0 + 0 := congrFun ht 0
    have q1 : win0_9.index t (1 : Fin 2) = (i 1).val / 768 - 0 + 0 := congrFun ht 1
    refine ⟨t, hft, ?_⟩
    rw [mem_blk9]
    intro a
    match a with
    | ⟨0, _⟩ => show win0_9.index t (0 : Fin 2) * 256 ≤ (i 0).val ∧ (i 0).val < win0_9.index t (0 : Fin 2) * 256 + 256; omega
    | ⟨1, _⟩ => show win0_9.index t (1 : Fin 2) * 768 ≤ (i 1).val ∧ (i 1).val < win0_9.index t (1 : Fin 2) * 768 + 768; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 6144 := (i 0).isLt; have h1 : (i 1).val < 768 := (i 1).isLt; omega))

/-! ## Output window 10 -/

/-- The block of the array that holds index `i`, numbered in the order the points write the blocks back (one per point),
    `i`'s place in it, and the point that writes it back. -/
abbrev run10Of (i : S6144x96.Idx) : ℕ := 1 * ((i 0).val / 256 - 0) + 1 * ((i 1).val / 96 - 0)
set_option backward.proofsInPublic true in
abbrev loc10Of (i : S6144x96.Idx) : S256x96.Idx := fun a => match a with
  | ⟨0, _⟩ => ⟨(i 0).val % 256, Nat.mod_lt _ (by decide)⟩
  | ⟨1, _⟩ => ⟨(i 1).val % 96, Nat.mod_lt _ (by decide)⟩
abbrev pt10Of (i : S6144x96.Idx) : ℕ := run10Of i

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v5_2) := fun i =>
  if h : pt10Of i < cfg0.N then
    (Pipeline.accAt (fun n h => stAt0 m c n h junk0) (stAt0 m c) 0 (pt10Of i) (by omega)).2.2.1 (loc10Of i)
  else V m c (Pipeline.arrRef spec0 10) i

/-- The printed index map, decided over the grid: output window 10's block indices stay in the box, and the block number
    read off them is the point's (`t`). -/
theorem idx_facts10 : ∀ t : Fin cfg0.N, 0 ≤ win0_10.index t (0 : Fin 2) ∧ win0_10.index t (0 : Fin 2) ≤ 23
    ∧ 0 ≤ win0_10.index t (1 : Fin 2) ∧ win0_10.index t (1 : Fin 2) ≤ 0
    ∧ 1 * (win0_10.index t (0 : Fin 2) - 0) + 1 * (win0_10.index t (1 : Fin 2) - 0) = t.val :=
  (by decide +kernel : ∀ t : Fin grid0.N, _)

/-- Every block of the box is SOME flushing point's: `onto10Pt`, the point that writes back the block at place `q` of the box. -/
abbrev onto10Pt (q0 : Fin 24) (q1 : Fin 1) : Fin grid0.N :=
  ⟨1 * q0.val + 1 * q1.val, lt_of_lt_of_eq (by omega) N_0.symm⟩
theorem idx_onto10 : ∀ (q0 : Fin 24) (q1 : Fin 1), ∃ t : Fin cfg0.N, (cfg0.win 10).flush t = true ∧ win0_10.index t = ![q0.val + 0, q1.val + 0] :=
  fun q0 q1 => ⟨onto10Pt q0 q1, (by decide +kernel : ∀ (q0 : Fin 24) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  obtain ⟨e0, e1, e2⟩ := idx_facts10 t
  funext y
  have hy0 : (y 0).val < 256 := (y 0).isLt
  have hy1 : (y 1).val < 96 := (y 1).isLt
  have hb0 : (((cfg0.win 10).blk t).view.emb y 0).val = win0_10.index t (0 : Fin 2) * 256 + 1 * (y 0).val := rfl
  have hb1 : (((cfg0.win 10).blk t).view.emb y 1).val = win0_10.index t (1 : Fin 2) * 96 + 1 * (y 1).val := rfl
  have hr : run10Of (((cfg0.win 10).blk t).view.emb y) = t.val := by
    show 1 * ((((cfg0.win 10).blk t).view.emb y 0).val / 256 - 0) + 1 * ((((cfg0.win 10).blk t).view.emb y 1).val / 96 - 0) = _
    rw [hb0, hb1]
    rw [show (win0_10.index t (0 : Fin 2) * 256 + 1 * (y 0).val) / 256 = win0_10.index t (0 : Fin 2) from by omega]; rw [show (win0_10.index t (1 : Fin 2) * 96 + 1 * (y 1).val) / 96 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 256 = (y 0).val; rw [hb0]; omega
    | ⟨1, _⟩ => show (((cfg0.win 10).blk t).view.emb y 1).val % 96 = (y 1).val; rw [hb1]; omega
  have hp : pt10Of (((cfg0.win 10).blk t).view.emb y) = t.val := by
    exact hr
  show (Pipeline.accAt (fun n h => stAt0 m c n h junk0) (stAt0 m c) 0 t.val _).2.2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S6144x96.Idx) :
    i ∈ ((cfg0.win 10).blk t).view.set ↔ ∀ a : Fin 2, win0_10.index t a * S256x96.size a ≤ (i a).val ∧ (i a).val < win0_10.index t a * S256x96.size a + S256x96.size a := by
  show i ∈ ((View.whole main_v5_2).slice (win0_10.rect t)).set ↔ _
  rw [View.set_slice_whole, Rect.mem_set_unit]
  exact Iff.rfl

/-- THE COVERED INDICES: in some flushing point's block iff inside the box those blocks fill. -/
theorem covered_iff10 (i : S6144x96.Idx) :
    (∃ t : Fin cfg0.N, (cfg0.win 10).flush t = true ∧ i ∈ ((cfg0.win 10).blk t).view.set) ↔ 0 ≤ (i 0).val ∧ (i 0).val < 6144 ∧ 0 ≤ (i 1).val ∧ (i 1).val < 96 := by
  constructor
  · rintro ⟨t, -, hi⟩
    rw [mem_blk10] at hi
    have b0 : win0_10.index t (0 : Fin 2) * 256 ≤ (i 0).val ∧ (i 0).val < win0_10.index t (0 : Fin 2) * 256 + 256 := hi 0
    have b1 : win0_10.index t (1 : Fin 2) * 96 ≤ (i 1).val ∧ (i 1).val < win0_10.index t (1 : Fin 2) * 96 + 96 := hi 1
    obtain ⟨e0, e1, e2⟩ := idx_facts10 t
    omega
  · intro h
    have hi0 : (i 0).val < 6144 := (i 0).isLt
    have hi1 : (i 1).val < 96 := (i 1).isLt
    obtain ⟨t, hft, ht⟩ := idx_onto10 ⟨(i 0).val / 256 - 0, by omega⟩ ⟨(i 1).val / 96 - 0, by omega⟩
    have q0 : win0_10.index t (0 : Fin 2) = (i 0).val / 256 - 0 + 0 := congrFun ht 0
    have q1 : win0_10.index t (1 : Fin 2) = (i 1).val / 96 - 0 + 0 := congrFun ht 1
    refine ⟨t, hft, ?_⟩
    rw [mem_blk10]
    intro a
    match a with
    | ⟨0, _⟩ => show win0_10.index t (0 : Fin 2) * 256 ≤ (i 0).val ∧ (i 0).val < win0_10.index t (0 : Fin 2) * 256 + 256; omega
    | ⟨1, _⟩ => show win0_10.index t (1 : Fin 2) * 96 ≤ (i 1).val ∧ (i 1).val < win0_10.index t (1 : Fin 2) * 96 + 96; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 6144 := (i 0).isLt; have h1 : (i 1).val < 96 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v5_0) = G8 m c
      ∧ r.2.mem ((c : Thread nD τ).loc main_v5_1) = G9 m c
      ∧ r.2.mem ((c : Thread nD τ).loc main_v5_2) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Arrays.lean ====
module

public import proofs.«01_k».proof.Proof.Blocks
public import proofs.«01_k».proof.Proof.KernelIdealFrame.Value
public import Idealize.ShloMosaic.Lib.Pipeline.ValueKit.Point

@[expose] public section

set_option maxRecDepth 16384

/-! # The kernel's result arrays

Row `r` of each result is what the grid point of its block left of row `r % 256`; the decoded weight,
carried from the first point, is the same at every point. -/

noncomputable section

namespace Cert.KernelIdeal.Value

open Idealize.ShloMosaic hiding ix0 ix1 ix2 ix3
open Idealize.ShloMosaic.TcCoe Idealize.ShloMosaic.ValueIdx
open Cert.KernelIdeal Cert.KernelIdeal.Gen Cert.KernelIdeal.Gen.Slab Nvfp4

variable (m : (ℓ : Loc nD τ sig) → Buf (Elt Ideal) ℓ)

/-! ## The arrays the grid reads -/

/-- The global scale of the gradient. -/
abbrev aG (c : Dev nD) : Vec Ideal S1 .f32 := V m c main_v0
/-- The global scale of the weight. -/
abbrev aW (c : Dev nD) : Vec Ideal S1 .f32 := V m c main_v1
/-- The gradient's rows. -/
abbrev aY (c : Dev nD) : Vec Ideal S6144x1536 .bf16 := V m c main_v2
/-- The smoothing factors. -/
abbrev aM (c : Dev nD) : Vec Ideal S1x6144 .f32 := V m c main_v3
/-- The packed weight. -/
abbrev aP (c : Dev nD) : Vec Ideal S6144x768 .i8 := V m c main_arg3
/-- The weight's scales. -/
abbrev aS (c : Dev nD) : Vec Ideal S6144x96 .fp8e4m3 := V m c main_arg4
/-- The first low-rank factor, transposed. -/
abbrev aD (c : Dev nD) : Vec Ideal S16x6144 .bf16 := V m c main_v4
/-- The second low-rank factor. -/
abbrev aU (c : Dev nD) : Vec Ideal S16x1536 .bf16 := V m c main_arg7

theorem idx0 : ∀ t : Fin cfg0.N, win0_0.index t = ![0] :=
  (by decide +kernel : ∀ t : Fin grid0.N, win0_0.index t = ![0])

theorem idx1 : ∀ t : Fin cfg0.N, win0_1.index t = ![0] :=
  (by decide +kernel : ∀ t : Fin grid0.N, win0_1.index t = ![0])

theorem idx3 : ∀ t : Fin cfg0.N, win0_3.index t = ![0, 0] :=
  (by decide +kernel : ∀ t : Fin grid0.N, win0_3.index t = ![0, 0])

theorem idx4 : ∀ t : Fin cfg0.N, win0_4.index t = ![0, 0] :=
  (by decide +kernel : ∀ t : Fin grid0.N, win0_4.index t = ![0, 0])

theorem idx5 : ∀ t : Fin cfg0.N, win0_5.index t = ![0, 0] :=
  (by decide +kernel : ∀ t : Fin grid0.N, win0_5.index t = ![0, 0])

theorem idx6 : ∀ t : Fin cfg0.N, win0_6.index t = ![0, 0] :=
  (by decide +kernel : ∀ t : Fin grid0.N, win0_6.index t = ![0, 0])

theorem idx7 : ∀ t : Fin cfg0.N, win0_7.index t = ![0, 0] :=
  (by decide +kernel : ∀ t : Fin grid0.N, win0_7.index t = ![0, 0])

theorem idx2 : ∀ t : Fin cfg0.N, win0_2.index t = ![t.val, 0] :=
  (by decide +kernel : ∀ t : Fin grid0.N, win0_2.index t = ![t.val, 0])

theorem iblk0 (c : Dev nD) (t : Fin cfg0.N) : iblk m c 0 t = aG m c := by
  funext y
  blk_ext [iblk, idx0 t]

theorem iblk1 (c : Dev nD) (t : Fin cfg0.N) : iblk m c 1 t = aW m c := by
  funext y
  blk_ext [iblk, idx1 t]

theorem iblk3 (c : Dev nD) (t : Fin cfg0.N) : iblk m c 3 t = aM m c := by
  funext y
  blk_ext [iblk, idx3 t]

theorem iblk4 (c : Dev nD) (t : Fin cfg0.N) : iblk m c 4 t = aP m c := by
  funext y
  blk_ext [iblk, idx4 t]

theorem iblk5 (c : Dev nD) (t : Fin cfg0.N) : iblk m c 5 t = aS m c := by
  funext y
  blk_ext [iblk, idx5 t]

theorem iblk6 (c : Dev nD) (t : Fin cfg0.N) : iblk m c 6 t = aD m c := by
  funext y
  blk_ext [iblk, idx6 t]

theorem iblk7 (c : Dev nD) (t : Fin cfg0.N) : iblk m c 7 t = aU m c := by
  funext y
  blk_ext [iblk, idx7 t]

theorem iblk2 (c : Dev nD) (t : Fin cfg0.N) (i : Fin 256) (r : Fin 6144) (hr : r.val = t.val * 256 + i.val) (j : Fin 1536) :
    iblk m c 2 t (ix2 i j) = aY m c (ix2 r j) := by
  refine congrArg (aY m c) (funext fun a => Fin.ext ?_)
  have e0 : (cfg0.win 2).index t (0 : Fin 2) = t.val := congrFun (idx2 t) 0
  have e1 : (cfg0.win 2).index t (1 : Fin 2) = 0 := congrFun (idx2 t) 1
  match a with
  | ⟨0, _⟩ =>
    refine (Pipeline.Window.rect_emb_val (hk := rfl) (cfg0.win 2) t _ (0 : Fin 2)).trans ?_
    rw [e0]
    exact hr.symm
  | ⟨1, _⟩ =>
    refine (Pipeline.Window.rect_emb_val (hk := rfl) (cfg0.win 2) t _ (1 : Fin 2)).trans ?_
    rw [e1]
    exact (congrArg (· + j.val) (Nat.zero_mul _)).trans (Nat.zero_add _)

/-! ## What each grid point leaves -/

/-- The decoded weight, carried: every point finds and leaves what the first one decoded. -/
theorem scratch (c : Dev nD) : ∀ (n : ℕ) (hn : n < cfg0.N),
    (outsAt0 m c n hn).2.2.2 = fun y : S6144x1536.Idx => decS (row (aP m c) (y 0)) (row (aS m c) (y 0)) (kcol (y 1))
  | 0, hn => by
    have e := congrArg (fun p => p.2.2.2) (outsAt0_A m c ⟨0, hn⟩ (Nat.zero_mod _))
    dsimp only at e
    rw [weight_A, iblk4, iblk5] at e
    exact e
  | n + 1, hn => by
    have h24 := lt_of_lt_of_eq hn (show cfg0.N = 24 from N_0)
    have e := congrArg (fun p => p.2.2.2) (outsAt0_B m c ⟨n + 1, hn⟩ (by simp only; omega))
    exact e.trans (scratch c n _)

/-- The codes a point leaves. -/
theorem codes_at (c : Dev nD) (t : Fin cfg0.N) (hg : one (aG m c) ≠ 0) :
    (outsAt0 m c t.val t.isLt).2.1
      = fun y : S256x768.Idx => packS (one (aG m c)) (row (iblk m c 2 t : Vec Ideal S256x1536 .bf16) (y 0)) (y 1) := by
  by_cases h0 : t.val % 24 = 0
  · have e := congrArg (fun p => p.2.1) (outsAt0_A m c t h0)
    dsimp only at e
    rw [iblk0 m c t, codes_A (hg := hg)] at e
    exact e
  · have e := congrArg (fun p => p.2.1) (outsAt0_B m c t h0)
    dsimp only at e
    rw [iblk0 m c t, codes_B (hg := hg)] at e
    exact e

/-- The scales a point leaves. -/
theorem scales_at (c : Dev nD) (t : Fin cfg0.N) :
    (outsAt0 m c t.val t.isLt).2.2.1
      = fun y : S256x96.Idx => sclS (one (aG m c)) (row (iblk m c 2 t : Vec Ideal S256x1536 .bf16) (y 0)) (y 1) := by
  by_cases h0 : t.val % 24 = 0
  · have e := congrArg (fun p => p.2.2.1) (outsAt0_A m c t h0)
    dsimp only at e
    rw [iblk0 m c t, scales_A] at e
    exact e
  · have e := congrArg (fun p => p.2.2.1) (outsAt0_B m c t h0)
    dsimp only at e
    rw [iblk0 m c t, scales_B] at e
    exact e

/-- The rows of the gradient product a point leaves. -/
theorem dx_at (c : Dev nD) (t : Fin cfg0.N) (hg : one (aG m c) ≠ 0) :
    (outsAt0 m c t.val t.isLt).1
      = fun y : S256x6144.Idx => dxOf (J := Fin 1536)
          (fun k => deqS (one (aG m c)) (row (iblk m c 2 t : Vec Ideal S256x1536 .bf16) (y 0)) (kcol k))
          (fun k => decS (row (aP m c) (y 1)) (row (aS m c) (y 1)) (kcol k)) (one (aG m c) * one (aW m c))
          (row (iblk m c 2 t : Vec Ideal S256x1536 .bf16) (y 0)) (row (aU m c)) (fun r => row (aD m c) r (y 1))
          (row (aM m c) (0 : Fin 1) (y 1)) := by
  by_cases h0 : t.val % 24 = 0
  · have e := congrArg (fun p => p.1) (outsAt0_A m c t h0)
    dsimp only at e
    rw [iblk0 m c t, iblk1 m c t, iblk3 m c t, iblk4 m c t, iblk5 m c t, iblk6 m c t, iblk7 m c t, dx_A (hg := hg)] at e
    exact e
  · have e := congrArg (fun p => p.1) (outsAt0_B m c t h0)
    dsimp only at e
    rw [iblk0 m c t, iblk1 m c t, iblk3 m c t, iblk6 m c t, iblk7 m c t, dx_B (hg := hg), scratch] at e
    exact e

/-! ## The result arrays -/

theorem row_at (c : Dev nD) (r : Fin 6144) (t : Fin cfg0.N) (i : Fin 256) (ht : t.val = r.val / 256) (hi : i.val = r.val % 256) :
    row (iblk m c 2 t : Vec Ideal S256x1536 .bf16) i = row (aY m c) r := by
  funext j
  exact iblk2 m c t i r (by rw [ht, hi]; omega) j

/-- The packed codes. -/
theorem G9_apply (c : Dev nD) (i : S6144x768.Idx) (hg : one (aG m c) ≠ 0) :
    G9 m c i = packS (one (aG m c)) (row (aY m c) (i 0)) (i 1) := by
  have hi0 : (i 0).val < 6144 := (i 0).isLt
  have hi1 : (i 1).val < 768 := (i 1).isLt
  have h : pt9Of i < cfg0.N := by rw [show cfg0.N = 24 from N_0]; show 1 * ((i 0).val / 256 - 0) + 1 * ((i 1).val / 768 - 0) < 24; omega
  have hp : pt9Of i = (i 0).val / 256 := by show 1 * ((i 0).val / 256 - 0) + 1 * ((i 1).val / 768 - 0) = _; omega
  unfold G9
  rw [dif_pos h, ← outsAt0_sweep m c (pt9Of i) h]
  refine (congrFun (codes_at m c ⟨pt9Of i, h⟩ hg) (loc9Of i)).trans ?_
  refine congrArg₂ (fun x b => packS (one (aG m c)) x b) (row_at m c (i 0) ⟨pt9Of i, h⟩ _ hp rfl) (Fin.ext ?_)
  exact Nat.mod_eq_of_lt hi1

/-- The scales. -/
theorem G10_apply (c : Dev nD) (i : S6144x96.Idx) :
    G10 m c i = sclS (one (aG m c)) (row (aY m c) (i 0)) (i 1) := by
  have hi0 : (i 0).val < 6144 := (i 0).isLt
  have hi1 : (i 1).val < 96 := (i 1).isLt
  have h : pt10Of i < cfg0.N := by rw [show cfg0.N = 24 from N_0]; show 1 * ((i 0).val / 256 - 0) + 1 * ((i 1).val / 96 - 0) < 24; omega
  have hp : pt10Of i = (i 0).val / 256 := by show 1 * ((i 0).val / 256 - 0) + 1 * ((i 1).val / 96 - 0) = _; omega
  unfold G10
  rw [dif_pos h, ← outsAt0_sweep m c (pt10Of i) h]
  refine (congrFun (scales_at m c ⟨pt10Of i, h⟩) (loc10Of i)).trans ?_
  refine congrArg₂ (fun x b => sclS (one (aG m c)) x b) (row_at m c (i 0) ⟨pt10Of i, h⟩ _ hp rfl) (Fin.ext ?_)
  exact Nat.mod_eq_of_lt hi1

/-- The sum over the columns does not depend on their order. -/
theorem dxOf_kcol (d w : Fin 1536 → EReal) (gw : EReal) (x : Fin 1536 → EReal) (up : Fin 16 → Fin 1536 → EReal) (dn : Fin 16 → EReal) (sm : EReal) :
    dxOf (J := Fin 1536) (fun k => d (kcol k)) (fun k => w (kcol k)) gw x up dn sm = dxOf (J := Fin 1536) d w gw x up dn sm := by
  unfold dxOf
  rw [kcol_bij.sum_comp fun k => d k * w k]

/-- The gradient product, its inner sum over the columns in their own order. -/
theorem G8_apply (c : Dev nD) (i : S6144x6144.Idx) (hg : one (aG m c) ≠ 0) :
    G8 m c i = dxOf (J := Fin 1536) (deqS (one (aG m c)) (row (aY m c) (i 0)))
      (decS (row (aP m c) (i 1)) (row (aS m c) (i 1))) (one (aG m c) * one (aW m c))
      (row (aY m c) (i 0)) (row (aU m c)) (fun r => row (aD m c) r (i 1)) (row (aM m c) (0 : Fin 1) (i 1)) := by
  have hi0 : (i 0).val < 6144 := (i 0).isLt
  have hi1 : (i 1).val < 6144 := (i 1).isLt
  have h : pt8Of i < cfg0.N := by rw [show cfg0.N = 24 from N_0]; show 1 * ((i 0).val / 256 - 0) + 1 * ((i 1).val / 6144 - 0) < 24; omega
  have hp : pt8Of i = (i 0).val / 256 := by show 1 * ((i 0).val / 256 - 0) + 1 * ((i 1).val / 6144 - 0) = _; omega
  unfold G8
  rw [dif_pos h, ← outsAt0_sweep m c (pt8Of i) h]
  refine (congrFun (dx_at m c ⟨pt8Of i, h⟩ hg) (loc8Of i)).trans ?_
  refine (congrArg₂ (fun x (b : Fin 6144) => dxOf (J := Fin 1536) (fun k => deqS (one (aG m c)) x (kcol k))
      (fun k => decS (row (aP m c) b) (row (aS m c) b) (kcol k)) (one (aG m c) * one (aW m c))
      x (row (aU m c)) (fun r => row (aD m c) r b) (row (aM m c) (0 : Fin 1) b))
    (row_at m c (i 0) ⟨pt8Of i, h⟩ _ hp rfl) (Fin.ext (Nat.mod_eq_of_lt hi1) : _ = i 1)).trans ?_
  exact dxOf_kcol (deqS (one (aG m c)) (row (aY m c) (i 0))) (decS (row (aP m c) (i 1)) (row (aS m c) (i 1))) _ _ _ _ _

end Cert.KernelIdeal.Value

end
-- ==== Proof.RefPay.lean ====
module

public import proofs.«01_k».proof.Proof.Products
public import proofs.«01_k».proof.Proof.Gen.ReferenceIdeal.Skeleton

@[expose] public section

set_option maxRecDepth 16384

/-! # The reference's arithmetic, element by element -/

noncomputable section

namespace Cert.ReferenceIdeal.Gen

open Idealize.ShloMosaic hiding ix0 ix1 ix2 ix3
open Idealize.ShloMosaic.TcCoe Idealize.ShloMosaic.ValueIdx
open Cert.ReferenceIdeal Cert.ReferenceIdeal.Gen Nvfp4
open Cert.KernelIdeal.Gen.Slab (mg code)

/-- A row of a matrix. -/
abbrev rrow {α : Type} {a b : ℕ} (x : (⟨2, ![a, b]⟩ : Shape).Idx → α) (r : Fin a) (j : Fin b) : α := x (ix2 r j)

/-! ## Shape casts -/

section
variable {α : Type} (r : Fin 6144)

theorem sc_grp (v : S6144x1536.Idx → α) (h) (q : Fin 96) (n : Fin 16) :
    shapeCast S6144x96x16 v h (ix3 r q n) = v (ix2 r (⟨16 * q.val + n.val, by omega⟩ : Fin 1536)) :=
  shapeCast_apply _ _ _ _ (by
    rw [Shape.rowMajor_val_two, Shape.rowMajor_val_three]
    show r.val * 1536 + (16 * q.val + n.val) = (r.val * 96 + q.val) * 16 + n.val
    omega)

theorem sc_pair (v : S6144x96x16.Idx → α) (h) (b : Fin 768) (p : Fin 2) :
    shapeCast S6144x768x2 v h (ix3 r b p) = v (ix3 r (⟨b.val / 8, by omega⟩ : Fin 96) (⟨2 * (b.val % 8) + p.val, by omega⟩ : Fin 16)) :=
  shapeCast_apply _ _ _ _ (by
    rw [Shape.rowMajor_val_three, Shape.rowMajor_val_three]
    show (r.val * 96 + b.val / 8) * 16 + (2 * (b.val % 8) + p.val) = (r.val * 768 + b.val) * 2 + p.val
    omega)

theorem sc_u2 (v : S6144x768x1.Idx → α) (h) (b : Fin 768) :
    shapeCast S6144x768 v h (ix2 r b) = v (ix3 r b (0 : Fin 1)) :=
  shapeCast_apply _ _ _ _ (by
    rw [Shape.rowMajor_val_two, Shape.rowMajor_val_three]
    show (r.val * 768 + b.val) * 1 + 0 = r.val * 768 + b.val
    omega)

theorem sc_3u (v : S6144x768.Idx → α) (h) (b : Fin 768) (u : Fin 1) :
    shapeCast S6144x768x1 v h (ix3 r b u) = v (ix2 r b) :=
  shapeCast_apply _ _ _ _ (by
    rw [Shape.rowMajor_val_two, Shape.rowMajor_val_three]
    show r.val * 768 + b.val = (r.val * 768 + b.val) * 1 + u.val
    omega)

theorem sc_s (v : S6144x96.Idx → α) (h) (q : Fin 96) (u : Fin 1) :
    shapeCast S6144x96x1 v h (ix3 r q u) = v (ix2 r q) :=
  shapeCast_apply _ _ _ _ (by
    rw [Shape.rowMajor_val_two, Shape.rowMajor_val_three]
    show r.val * 96 + q.val = (r.val * 96 + q.val) * 1 + u.val
    omega)

theorem sc_8 (v : S6144x768.Idx → α) (h) (q : Fin 96) (k : Fin 8) :
    shapeCast S6144x96x8 v h (ix3 r q k) = v (ix2 r (⟨8 * q.val + k.val, by omega⟩ : Fin 768)) :=
  shapeCast_apply _ _ _ _ (by
    rw [Shape.rowMajor_val_two, Shape.rowMajor_val_three]
    show r.val * 768 + (8 * q.val + k.val) = (r.val * 96 + q.val) * 8 + k.val
    omega)

theorem sc_8' (v : S6144x96x8.Idx → α) (h) (b : Fin 768) :
    shapeCast S6144x768 v h (ix2 r b) = v (ix3 r (⟨b.val / 8, by omega⟩ : Fin 96) (⟨b.val % 8, by omega⟩ : Fin 8)) :=
  shapeCast_apply _ _ _ _ (by
    rw [Shape.rowMajor_val_two, Shape.rowMajor_val_three]
    show (r.val * 96 + b.val / 8) * 8 + b.val % 8 = r.val * 768 + b.val
    omega)

theorem sc_fl (v : S6144x768x2.Idx → α) (h) (j : Fin 1536) :
    shapeCast S6144x1536 v h (ix2 r j) = v (ix3 r (⟨j.val / 2, by omega⟩ : Fin 768) (⟨j.val % 2, by omega⟩ : Fin 2)) :=
  shapeCast_apply _ _ _ _ (by
    rw [Shape.rowMajor_val_two, Shape.rowMajor_val_three]
    show (r.val * 768 + j.val / 2) * 2 + j.val % 2 = r.val * 1536 + j.val
    omega)

end

/-! ## The scales -/

theorem pay2_eq (x : Vec Ideal S6144x1536 .bf16) : k0_pay2 (F := Ideal) x = x := shapeCast_self _ _

theorem pay3_apply (x : Vec Ideal S6144x1536 .bf16) (r : Fin 6144) (q : Fin 96) (n : Fin 16) :
    k0_pay3 (F := Ideal) x (ix3 r q n) = x (ix2 r (⟨16 * q.val + n.val, by omega⟩ : Fin 1536)) := by
  unfold k0_pay3
  rw [pay2_eq]
  exact sc_grp r _ _ q n

theorem ninf : FloatOps.ofBits (F := Ideal) .f32 0xFF800000#32 = (⊥ : EReal) := by
  show Ideal.ofBits .f32 0xFF800000#32 = ⊥
  simp [Ideal.ofBits, Ideal.ieee]

/-- The largest magnitudes of the groups. -/
def amx (x : Vec Ideal S6144x1536 .bf16) : FVec Ideal S6144x96 .f32 :=
  multiReduction (F := Ideal) (φ := .f32) .maximumf [2] S6144x96 (absf (k0_pay3 x)) 0xFF800000#32 reduces_S6144x96x16_S6144x96 (.inl rfl) rfl

theorem amx_apply (x : Vec Ideal S6144x1536 .bf16) (r : Fin 6144) (q : Fin 96) : amx x (ix2 r q) = grp (rrow x r) q := by
  unfold amx
  refine (Ideal.multiReduction_maximumf_single _ _ _ _ _ _).trans ?_
  rw [ninf]
  unfold grp Finset.sup
  refine Finset.fold_congr fun n _ => ?_
  have e : (reduces_S6144x96x16_S6144x96).lift (ix2 r q) n = ix3 r q (n : Fin 16) := funext fun a => Fin.ext (match a with
    | ⟨0, _⟩ => rfl
    | ⟨1, _⟩ => rfl
    | ⟨2, _⟩ => rfl)
  exact (congrArg (fun i => mg (k0_pay3 (F := Ideal) x i)) e).trans (congrArg mg (pay3_apply x r q n))

/-- The scales of groups with largest magnitudes `v6`. -/
def scl3 (v6 : FVec Ideal S6144x96 .f32) (v2 : EReal) : FVec Ideal S6144x96 .f32 :=
  let v15 : FVec Ideal S6144x96 .f32 := minimumf (broadcast S6144x96 (Scalar.ofBits (F := Ideal) .f32 0x43E00000#32)) (maximumf (broadcast S6144x96 (Scalar.ofBits (F := Ideal) .f32 0x00000000#32))
    (divf (mulf v6 (broadcast S6144x96 (Scalar.ofBits (F := Ideal) .f32 0x3F800800#32))) (broadcast S6144x96 (Scalar.mulf (F := Ideal) (φ := .f32) (Scalar.ofBits (F := Ideal) .f32 0x40C00000#32) v2))))
  select (cmpf .ole v15 (broadcast S6144x96 (Scalar.ofBits (F := Ideal) .f32 0x3A800000#32))) (broadcast S6144x96 (Scalar.ofBits (F := Ideal) .f32 0x3F800000#32)) v15

theorem scl3_apply (v6 : FVec Ideal S6144x96 .f32) (v2 : EReal) (y : S6144x96.Idx) : scl3 v6 v2 y = scaleOf (v6 y) (c32 0x40C00000#32 * v2) := rfl

theorem pay4_eq (x : Vec Ideal S6144x1536 .bf16) (g : EReal) : k0_pay4 (F := Ideal) x g = scl3 (amx x) g := rfl

theorem pay4_apply (x : Vec Ideal S6144x1536 .bf16) (g : EReal) (r : Fin 6144) (q : Fin 96) :
    k0_pay4 (F := Ideal) x g (ix2 r q) = sclS g (rrow x r) q := by
  rw [pay4_eq, scl3_apply, amx_apply]
  rfl

/-! ## The codes -/

/-- The columns over their scales. -/
def quo (x : FVec Ideal S6144x96x16 .f32) (s : FVec Ideal S6144x96 .f32) : FVec Ideal S6144x96x16 .f32 :=
  divf x (broadcastTo S6144x96x16 (shapeCast S6144x96x1 s shapeCasts_S6144x96_S6144x96x1) broadcasts_S6144x96x1_S6144x96x16)

theorem quo_apply (x : FVec Ideal S6144x96x16 .f32) (s : FVec Ideal S6144x96 .f32) (r : Fin 6144) (q : Fin 96) (n : Fin 16) :
    quo x s (ix3 r q n) = Ideal.div (x (ix3 r q n)) (s (ix2 r q)) := by
  refine congrArg (Ideal.div (x (ix3 r q n))) ?_
  refine (broadcastTo_apply _ _ _ (ix3 r q (0 : Fin 1)) (fun a => match a with
    | ⟨0, _⟩ => rfl
    | ⟨1, _⟩ => rfl
    | ⟨2, _⟩ => rfl)).trans ?_
  exact sc_s r _ _ _ _

theorem pay6_eq (x : Vec Ideal S6144x1536 .bf16) (g : EReal) :
    k0_pay6 (F := Ideal) x g = quo (k0_pay3 x) (mulf (F := Ideal) (φ := .f32) (k0_pay4 x g) (broadcast S6144x96 g)) := rfl

theorem mul_bc (s : FVec Ideal S6144x96 .f32) (g : EReal) (y : S6144x96.Idx) : mulf (F := Ideal) (φ := .f32) s (broadcast S6144x96 g) y = s y * g := rfl

theorem pay6_apply (x : Vec Ideal S6144x1536 .bf16) (g : EReal) (r : Fin 6144) (q : Fin 96) (n : Fin 16) :
    k0_pay6 (F := Ideal) x g (ix3 r q n) = Ideal.div (x (ix2 r (⟨16 * q.val + n.val, by omega⟩ : Fin 1536))) (sclS g (rrow x r) q * g) := by
  rw [pay6_eq, quo_apply, mul_bc, pay3_apply, pay4_apply]

/-- Codes packed two to a byte. -/
def packed (c : IVec S6144x96x16 32) : IVec S6144x768 8 :=
  trunci 8 (ori (shapeCast S6144x768 (extractStridedSlice S6144x768x1 ![0, 0, 0] (shapeCast S6144x768x2 c shapeCasts_S6144x96x16_S6144x768x2) slices_S6144x768x2_o0_0_0_S6144x768x1) shapeCasts_S6144x768x1_S6144x768)
    (shli (shapeCast S6144x768 (extractStridedSlice S6144x768x1 ![0, 0, 1] (shapeCast S6144x768x2 c shapeCasts_S6144x96x16_S6144x768x2) slices_S6144x768x2_o0_0_1_S6144x768x1) shapeCasts_S6144x768x1_S6144x768) (broadcast S6144x768 4#32))) natLt_8_32

theorem packed_apply (c : IVec S6144x96x16 32) (r : Fin 6144) (b : Fin 768) :
    packed c (ix2 r b) = rPack (c (ix3 r (⟨b.val / 8, by omega⟩ : Fin 96) (⟨2 * (b.val % 8), by omega⟩ : Fin 16)))
      (c (ix3 r (⟨b.val / 8, by omega⟩ : Fin 96) (⟨2 * (b.val % 8) + 1, by omega⟩ : Fin 16))) := by
  unfold packed
  refine congrArg₂ rPack ?_ ?_
  · rw [sc_u2]
    refine (extractStridedSlice_apply _ _ _ _ (ix3 r b (0 : Fin 2)) (fun a => match a with
      | ⟨0, _⟩ => by show r.val = 0 + r.val; omega
      | ⟨1, _⟩ => by show b.val = 0 + b.val; omega
      | ⟨2, _⟩ => rfl)).trans ?_
    rw [sc_pair]
    rfl
  · rw [sc_u2]
    refine (extractStridedSlice_apply _ _ _ _ (ix3 r b (1 : Fin 2)) (fun a => match a with
      | ⟨0, _⟩ => by show r.val = 0 + r.val; omega
      | ⟨1, _⟩ => by show b.val = 0 + b.val; omega
      | ⟨2, _⟩ => rfl)).trans ?_
    rw [sc_pair]
    rfl

/-- The codes of scaled columns. -/
def cod (t : FVec Ideal S6144x96x16 .f32) : IVec S6144x96x16 32 := fun y => rCode (t y)

/-- The packed codes of scaled columns. -/
def pk (t : FVec Ideal S6144x96x16 .f32) : IVec S6144x768 8 :=
  let m := minimumf (absf t) (broadcast S6144x96x16 (Scalar.ofBits (F := Ideal) .f32 0x40C00000#32))
  let two : FVec Ideal S6144x96x16 .f32 := broadcast S6144x96x16 (Scalar.ofBits (F := Ideal) .f32 0x40000000#32)
  k0_pay13 (F := Ideal) t (cmpf .olt m two) (divf (roundeven (mulf two m)) two)
    (cmpf .olt m (broadcast S6144x96x16 (Scalar.ofBits (F := Ideal) .f32 0x40800000#32))) (roundeven m) (roundeven (divf m two))

theorem pk_eq (t : FVec Ideal S6144x96x16 .f32) : pk t = packed (cod t) := rfl

/-- The packed codes the reference leaves. -/
abbrev rPk (x : Vec Ideal S6144x1536 .bf16) (g : EReal) : IVec S6144x768 8 :=
  k0_pay13 (F := Ideal) (k0_pay6 x g) (k0_pay8 x g) (k0_pay9 x g) (k0_pay10 x g) (k0_pay11 x g) (k0_pay12 x g)

theorem pay13_eq (x : Vec Ideal S6144x1536 .bf16) (g : EReal) : rPk x g = packed (cod (k0_pay6 (F := Ideal) x g)) :=
  (show rPk x g = pk (k0_pay6 (F := Ideal) x g) from rfl).trans (pk_eq _)

theorem pay13_apply (x : Vec Ideal S6144x1536 .bf16) (g : EReal) (r : Fin 6144) (b : Fin 768) :
    rPk x g (ix2 r b) = packS g (rrow x r) b := by
  have e (p : Fin 2) (hp : 2 * (b.val % 8) + p.val < 16) (hq : b.val / 8 < 96) (hj : 2 * b.val + p.val < 1536) :
      rCode (k0_pay6 (F := Ideal) x g (ix3 r (⟨b.val / 8, hq⟩ : Fin 96) (⟨2 * (b.val % 8) + p.val, hp⟩ : Fin 16)))
        = codeS g (rrow x r) ⟨2 * b.val + p.val, hj⟩ := by
    rw [pay6_apply]
    unfold codeS code
    have hi : (⟨16 * (b.val / 8) + (2 * (b.val % 8) + p.val), by omega⟩ : Fin 1536) = ⟨2 * b.val + p.val, hj⟩ := Fin.ext (by simp only; omega)
    have hs : (⟨b.val / 8, hq⟩ : Fin 96) = ⟨(2 * b.val + p.val) / 16, by omega⟩ := Fin.ext (by have := p.isLt; simp only; omega)
    exact congrArg₂ (fun (i : Fin 1536) (q : Fin 96) => rCode (Ideal.div (x (ix2 r i)) (sclS g (rrow x r) q * g))) hi hs
  rw [pay13_eq, packed_apply]
  unfold cod
  exact congrArg₂ rPack (e 0 (by have := (0 : Fin 2).isLt; simp; omega) (by omega) (by simp; omega)) (e 1 (by simp; omega) (by omega) (by simp; omega))

/-! ## The decoded rows -/

/-- Half the columns, decoded and scaled. -/
def decHalf (n : IVec S6144x768 32) (s : FVec Ideal S6144x96x1 .bf16) : FVec Ideal S6144x768 .bf16 :=
  shapeCast S6144x768 (mulf (F := Ideal) (φ := .bf16) (shapeCast S6144x96x8 (fun y => rDec (n y) : FVec Ideal S6144x768 .bf16) shapeCasts_S6144x768_S6144x96x8)
    (broadcastTo S6144x96x8 s broadcasts_S6144x96x1_S6144x96x8)) shapeCasts_S6144x96x8_S6144x768

theorem decHalf_apply (n : IVec S6144x768 32) (s : FVec Ideal S6144x96x1 .bf16) (r : Fin 6144) (b : Fin 768) :
    decHalf n s (ix2 r b) = rDec (n (ix2 r b)) * s (ix3 r (⟨b.val / 8, by omega⟩ : Fin 96) (0 : Fin 1)) := by
  unfold decHalf
  rw [sc_8']
  refine congrArg₂ (fun a b : EReal => a * b) ?_ ?_
  · rw [sc_8]
    exact congrArg (fun b : Fin 768 => rDec (n (ix2 r b))) (Fin.ext (by simp only; omega))
  · exact broadcastTo_apply _ _ _ _ (fun a => match a with
    | ⟨0, _⟩ => rfl
    | ⟨1, _⟩ => rfl
    | ⟨2, _⟩ => rfl)

/-- Even columns from one half, odd ones from the other. -/
def inter (lo hi : FVec Ideal S6144x768 .bf16) : FVec Ideal S6144x1536 .bf16 :=
  shapeCast S6144x1536 (concatenate S6144x768x2 2 [⟨S6144x768x1, shapeCast S6144x768x1 lo shapeCasts_S6144x768_S6144x768x1⟩, ⟨S6144x768x1, shapeCast S6144x768x1 hi shapeCasts_S6144x768_S6144x768x1⟩]
    concatenates_S6144x768x1_S6144x768x1_S6144x768x2_d2) shapeCasts_S6144x768x2_S6144x1536

theorem inter_apply (lo hi : FVec Ideal S6144x768 .bf16) (r : Fin 6144) (j : Fin 1536) :
    inter lo hi (ix2 r j) = if j.val % 2 = 0 then lo (ix2 r (⟨j.val / 2, by omega⟩ : Fin 768)) else hi (ix2 r (⟨j.val / 2, by omega⟩ : Fin 768)) := by
  unfold inter
  rw [sc_fl]
  split
  · next h =>
    refine (concatenate_pair_apply_left (t := S6144x768x2) (s₁ := S6144x768x1) (s₂ := S6144x768x1) (j := ix3 r (⟨j.val / 2, by omega⟩ : Fin 768) (⟨j.val % 2, by omega⟩ : Fin 2)) _ _ _ _ rfl (ix3 r (⟨j.val / 2, by omega⟩ : Fin 768) (0 : Fin 1)) (fun a => match a with
      | ⟨0, _⟩ => rfl
      | ⟨1, _⟩ => rfl
      | ⟨2, _⟩ => h.symm)).trans ?_
    exact sc_3u r _ _ _ _
  · next h =>
    refine (concatenate_pair_apply_right (t := S6144x768x2) (s₁ := S6144x768x1) (s₂ := S6144x768x1) (j := ix3 r (⟨j.val / 2, by omega⟩ : Fin 768) (⟨j.val % 2, by omega⟩ : Fin 2)) _ _ _ _ rfl rfl (ix3 r (⟨j.val / 2, by omega⟩ : Fin 768) (0 : Fin 1)) (fun a ha => match a, ha with
      | ⟨0, _⟩, _ => rfl
      | ⟨1, _⟩, _ => rfl
      | ⟨2, _⟩, ha => absurd rfl ha) (by show 0 + 1 = j.val % 2; omega)).trans ?_
    exact sc_3u r _ _ _ _

/-- Rows decoded from their bytes and scales. -/
theorem dec_apply (p : IVec S6144x768 8) (s : FVec Ideal S6144x96x1 .bf16) (w : Fin 768 → BitVec 8) (t : Fin 96 → EReal) (r : Fin 6144)
    (hp : ∀ b, p (ix2 r b) = w b) (hs : ∀ q, s (ix3 r q (0 : Fin 1)) = t q) (j : Fin 1536) :
    inter (decHalf (andi (extui 32 p natLt_8_32) (broadcast S6144x768 15#32)) s) (decHalf (shrsi (extui 32 p natLt_8_32) (broadcast S6144x768 4#32)) s) (ix2 r j)
      = decS w t j := by
  rw [inter_apply, decHalf_apply, decHalf_apply, hs]
  unfold decS
  rw [← hp]
  have e : (⟨j.val / 2 / 8, by omega⟩ : Fin 96) = ⟨j.val / 16, by omega⟩ := Fin.ext (by simp only; omega)
  rw [e]
  split <;> rfl

/-- Decoding the packed codes gives back the decoded values. -/
theorem decS_packS (g : EReal) (x : Fin 1536 → EReal) (j : Fin 1536) : decS (packS g x) (sclS g x) j = deqS g x j := by
  unfold decS deqS packS
  congr 2
  obtain ⟨k, s, -, h⟩ := code_eq (Ideal.div (x ⟨2 * (j.val / 2), by omega⟩) (sclS g x ⟨2 * (j.val / 2) / 16, by omega⟩ * g))
  obtain ⟨k', s', -, h'⟩ := code_eq (Ideal.div (x ⟨2 * (j.val / 2) + 1, by omega⟩) (sclS g x ⟨(2 * (j.val / 2) + 1) / 16, by omega⟩ * g))
  have hl : codeS g x ⟨2 * (j.val / 2), by omega⟩ = (nibOf k s).setWidth 32 := h
  have hh : codeS g x ⟨2 * (j.val / 2) + 1, by omega⟩ = (nibOf k' s').setWidth 32 := h'
  rw [hl, hh, (rPack_nib k k' s s').2.1, (rPack_nib k k' s s').2.2, ← hl, ← hh]
  split
  · exact congrArg (codeS g x) (Fin.ext (by simp only; omega))
  · exact congrArg (codeS g x) (Fin.ext (by simp only; omega))

/-- The decoded gradient. -/
theorem deq_apply (x : Vec Ideal S6144x1536 .bf16) (g : EReal) (r : Fin 6144) (j : Fin 1536) :
    inter (decHalf (andi (extui 32 (rPk x g) natLt_8_32) (broadcast S6144x768 15#32)) (k0_pay14 (F := Ideal) (k0_pay5 x g)))
      (decHalf (shrsi (extui 32 (rPk x g) natLt_8_32) (broadcast S6144x768 4#32)) (k0_pay14 (F := Ideal) (k0_pay5 x g))) (ix2 r j)
      = deqS g (rrow x r) j := by
  rw [dec_apply (rPk x g) _ (packS g (rrow x r)) (sclS g (rrow x r)) r (pay13_apply x g r) (fun q => ?_) j]
  · exact decS_packS _ _ _
  · unfold k0_pay14
    rw [sc_s]
    exact pay4_apply x g r q

/-! ## The gradient -/

theorem lo_eq (s : FVec Ideal S6144x96x1 .bf16) (p : IVec S6144x768 32) :
    k0_pay18 (F := Ideal) s (andi p (broadcast S6144x768 15#32)) (cmpi .ne (andi (andi p (broadcast S6144x768 15#32)) (broadcast S6144x768 1#32)) (broadcast S6144x768 0#32)) 2#32
      = decHalf (andi p (broadcast S6144x768 15#32)) s := rfl

theorem both_eq (s : FVec Ideal S6144x96x1 .bf16) (p : IVec S6144x768 32) (lo : FVec Ideal S6144x768 .bf16) :
    shapeCast S6144x1536 (k0_pay22 (F := Ideal) s lo (k0_pay19 p) (k0_pay20 p) k0_pay21) shapeCasts_S6144x768x2_S6144x1536
      = inter lo (decHalf (shrsi p (broadcast S6144x768 4#32)) s) := rfl

theorem wlo_eq (s : FVec Ideal S6144x96x1 .bf16) (p : IVec S6144x768 32) :
    k0_pay25 (F := Ideal) s p = decHalf (andi p (broadcast S6144x768 15#32)) s := rfl

theorem whi_eq (s : FVec Ideal S6144x96x1 .bf16) (p : IVec S6144x768 32) :
    k0_pay27 (F := Ideal) s p 4#32 = shapeCast S6144x768x1 (decHalf (shrsi p (broadcast S6144x768 4#32)) s) shapeCasts_S6144x768_S6144x768x1 := rfl

/-- The gradient from decoded rows. -/
def dxR (d w : FVec Ideal S6144x1536 .bf16) (x : FVec Ideal S6144x1536 .bf16) (g : EReal) (up : FVec Ideal S16x1536 .bf16) (dn : FVec Ideal S6144x16 .bf16) (gw : EReal)
    (sm : FVec Ideal S1x6144 .f32) : FVec Ideal S6144x6144 .bf16 :=
  mulf (F := Ideal) (φ := .f32) (addf (F := Ideal) (φ := .f32)
      (mulf (F := Ideal) (φ := .f32) (matmul (F := Ideal) (φ₁ := .bf16) (φ₂ := .bf16) dot_S6144x1536_S6144x1536_S6144x6144_1_1_0_0_n_n none d w (constant S6144x6144 .f32 0x00000000#32)) (broadcast S6144x6144 (g * gw)))
      (matmul (F := Ideal) (φ₁ := .bf16) (φ₂ := .bf16) dot_S6144x16_S6144x16_S6144x6144_1_1_0_0_n_n none
        (matmul (F := Ideal) (φ₁ := .bf16) (φ₂ := .bf16) dot_S6144x1536_S16x1536_S6144x16_1_1_0_0_n_n none x up (constant S6144x16 .f32 0x00000000#32)) dn (constant S6144x6144 .f32 0x00000000#32)))
    (broadcastTo S6144x6144 (shapeCast S1x6144 sm shapeCasts_S1x6144_S1x6144) broadcasts_S1x6144_S6144x6144)

theorem pay1_eq (x : FVec Ideal S6144x1536 .bf16) (g : EReal) (d : FVec Ideal S6144x768x2 .bf16) (lo hi : FVec Ideal S6144x768 .bf16) (up : FVec Ideal S16x1536 .bf16)
    (dn : FVec Ideal S6144x16 .bf16) (gw : EReal) (sm : FVec Ideal S1x6144 .f32) :
    k0_pay1 (F := Ideal) x g d (k0_pay26 lo) (shapeCast S6144x768x1 hi shapeCasts_S6144x768_S6144x768x1) up dn gw sm
      = dxR (shapeCast S6144x1536 d shapeCasts_S6144x768x2_S6144x1536) (inter lo hi) x g up dn gw sm := rfl

theorem dxR_apply (d w : FVec Ideal S6144x1536 .bf16) (x : FVec Ideal S6144x1536 .bf16) (g : EReal) (up : FVec Ideal S16x1536 .bf16) (dn : FVec Ideal S6144x16 .bf16) (gw : EReal)
    (sm : FVec Ideal S1x6144 .f32) (a b : Fin 6144) :
    dxR d w x g up dn gw sm (ix2 a b)
      = Cert.KernelIdeal.Gen.Slab.dxOf (J := Fin 1536) (fun k => d (ix2 a k)) (fun k => w (ix2 b k)) (g * gw) (fun j => x (ix2 a j)) (fun r j => up (ix2 r j)) (fun r => dn (ix2 b r)) (sm (ix2 (0 : Fin 1) b)) := by
  have m1 : ∀ r : Fin 16, matmul (F := Ideal) (φ₁ := .bf16) (φ₂ := .bf16) dot_S6144x1536_S16x1536_S6144x16_1_1_0_0_n_n none x up (constant S6144x16 .f32 0x00000000#32) (ix2 a r)
      = ∑ j : Fin 1536, x (ix2 a j) * up (ix2 r j) := fun r => Cert.KernelIdeal.Gen.Slab.mm_t x up a r
  have m2 : matmul (F := Ideal) (φ₁ := .bf16) (φ₂ := .bf16) dot_S6144x1536_S6144x1536_S6144x6144_1_1_0_0_n_n none d w (constant S6144x6144 .f32 0x00000000#32) (ix2 a b)
      = ∑ k : Fin 1536, d (ix2 a k) * w (ix2 b k) := Cert.KernelIdeal.Gen.Slab.mm_t d w a b
  have m3 := (Cert.KernelIdeal.Gen.Slab.mm_t (matmul (F := Ideal) (φ₁ := .bf16) (φ₂ := .bf16) dot_S6144x1536_S16x1536_S6144x16_1_1_0_0_n_n none x up (constant S6144x16 .f32 0x00000000#32)) dn a b).trans
    (Finset.sum_congr rfl fun r _ => congrArg (· * dn (ix2 b r)) (m1 r))
  have hs : broadcastTo S6144x6144 (shapeCast S1x6144 sm shapeCasts_S1x6144_S1x6144) broadcasts_S1x6144_S6144x6144 (ix2 a b) = sm (ix2 (0 : Fin 1) b) :=
    (broadcastTo_apply _ _ _ (ix2 (0 : Fin 1) b) (fun a => match a with
      | ⟨0, _⟩ => rfl
      | ⟨1, _⟩ => rfl)).trans (congrFun (shapeCast_self _ _) _)
  unfold Cert.KernelIdeal.Gen.Slab.dxOf
  refine congrArg₂ (fun a b : EReal => a * b) (congrArg₂ (fun a b : EReal => a + b) (congrArg (· * (g * gw)) m2) m3) hs

end Cert.ReferenceIdeal.Gen

end
-- ==== Proof.RefArrays.lean ====
module

public import proofs.«01_k».proof.Proof.RefPay
public import proofs.«01_k».proof.Proof.Blocks
public import proofs.«01_k».proof.Proof.Gen.ReferenceIdeal.Value
public import Idealize.ShloMosaic.Lib.Pipeline.ValueKit.Point

@[expose] public section

set_option maxRecDepth 16384

/-! # The reference's result arrays

The reference runs once over whole arrays: every read is of a whole buffer and each result is one store. -/

noncomputable section

namespace Cert.ReferenceIdeal.Value

open Idealize.ShloMosaic hiding ix0 ix1 ix2 ix3
open Idealize.ShloMosaic.TcCoe Idealize.ShloMosaic.ValueIdx
open Cert.ReferenceIdeal Cert.ReferenceIdeal.Gen Nvfp4
open Cert.KernelIdeal.Gen (one row)
open Cert.KernelIdeal.Gen.Slab (dxOf dxOf_congr)

/-! ## Whole reads and whole stores -/

/-- A read of a whole buffer gives what it holds. -/
theorem rd {sp : Space} {s : Shape} {e : EltTy} (m : Memref sig .tc sp s e) (h : m.IsWhole) (x : Vec Ideal s e) {off : Fin s.rank → ℕ} (inb : ∀ a, off a + s.size a ≤ s.size a) :
    View.readAt (Elt Ideal) m.view (Rect.unit off s.size inb).toLoadRect (h.unread x) = x :=
  funext fun y => (congrArg (m.view.read (Elt Ideal) (h.unread x)) (funext fun a => Fin.ext (by
    show off a + 1 * (y a).val = (y a).val
    have := inb a; omega) : (Rect.unit off s.size inb).toLoadRect.idx y = y)).trans (congrFun (h.read_unread x) y)

/-- A whole store's elements are the buffer's own. -/
theorem emb_full {s : Shape} {off : Fin s.rank → ℕ} (inb : ∀ a, off a + s.size a ≤ s.size a) (x : s.Idx) : (Rect.unit off s.size inb).emb x = x :=
  funext fun a => Fin.ext (by
    show off a + 1 * (x a).val = (x a).val
    have := inb a; omega)

section
variable (c : Dev nD) {arg0 : Memref sig .tc .vmem S6144x1536 .bf16} {harg0 : arg0.IsWhole} {arg2 : Memref sig .tc .smem S1 .f32} {harg2 : arg2.IsWhole}
  {arg3 : Memref sig .tc .vmem S6144x768 .i8} {harg3 : arg3.IsWhole} {arg4 : Memref sig .tc .vmem S6144x96 .fp8e4m3} {harg4 : arg4.IsWhole}
  {arg5 : Memref sig .tc .smem S1 .f32} {harg5 : arg5.IsWhole}
  (x0 : Vec Ideal S6144x1536 .bf16) (x2 : Vec Ideal S1 .f32) (x3 : Vec Ideal S6144x768 .i8) (x4 : Vec Ideal S6144x96 .fp8e4m3) (x5 : Vec Ideal S1 .f32)

theorem one_at (f : Vec Ideal S1 .f32) (y : S1.Idx) : f y = one f := congrArg f (funext fun a => match a with
  | ⟨0, _⟩ => Subsingleton.elim (α := Fin 1) _ _)

theorem sl_g : kernelRun0_A.sl.r (F := Ideal) c arg2 harg2 x2 = one x2 := by
  unfold kernelRun0_A.sl.r
  rw [rd]
  exact one_at x2 _

theorem sl_gw : kernelRun0_A.sl.r_23 (F := Ideal) c arg5 harg5 x5 = one x5 := by
  unfold kernelRun0_A.sl.r_23
  rw [rd]
  exact one_at x5 _

theorem sl_x : kernelRun0_A.sl.r_1 (F := Ideal) c arg0 harg0 x0 = x0 := by
  unfold kernelRun0_A.sl.r_1
  rw [rd, pay2_eq]

theorem sl_s : kernelRun0_A.sl.r_2 (F := Ideal) c arg0 harg0 arg2 harg2 x0 x2 = k0_pay5 x0 (one x2) := by
  unfold kernelRun0_A.sl.r_2
  rw [rd, sl_g]

theorem sl_p : kernelRun0_A.sl.r_9 (F := Ideal) c arg0 harg0 arg2 harg2 x0 x2 = rPk x0 (one x2) := by
  unfold kernelRun0_A.sl.r_9 kernelRun0_A.sl.r_3 kernelRun0_A.sl.r_4 kernelRun0_A.sl.r_5 kernelRun0_A.sl.r_6 kernelRun0_A.sl.r_7 kernelRun0_A.sl.r_8
  rw [rd, sl_g]

theorem sl_s3 : kernelRun0_A.sl.r_10 (F := Ideal) c arg0 harg0 arg2 harg2 x0 x2 = k0_pay14 (k0_pay5 x0 (one x2)) := by
  unfold kernelRun0_A.sl.r_10
  rw [sl_s]

theorem sl_w : kernelRun0_A.sl.r_11 (F := Ideal) c arg0 harg0 arg2 harg2 x0 x2 = extui 32 (rPk x0 (one x2)) natLt_8_32 := by
  rw [← sl_p (arg0 := arg0) (harg0 := harg0) (arg2 := arg2) (harg2 := harg2) c]
  rfl

theorem sl_n : kernelRun0_A.sl.r_12 (F := Ideal) c arg0 harg0 arg2 harg2 x0 x2 = andi (extui 32 (rPk x0 (one x2)) natLt_8_32) (broadcast S6144x768 15#32) := by
  rw [← sl_p (arg0 := arg0) (harg0 := harg0) (arg2 := arg2) (harg2 := harg2) c]
  rfl

theorem sl_b : kernelRun0_A.sl.r_13 (F := Ideal) c arg0 harg0 arg2 harg2 x0 x2
    = cmpi .ne (andi (andi (extui 32 (rPk x0 (one x2)) natLt_8_32) (broadcast S6144x768 15#32)) (broadcast S6144x768 1#32)) (broadcast S6144x768 0#32) := by
  rw [← sl_p (arg0 := arg0) (harg0 := harg0) (arg2 := arg2) (harg2 := harg2) c]
  rfl

/-- The decoded gradient. -/
theorem sl_d : shapeCast S6144x1536 (kernelRun0_A.sl.r_17 (F := Ideal) c arg0 harg0 arg2 harg2 x0 x2) shapeCasts_S6144x768x2_S6144x1536
    = inter (decHalf (andi (extui 32 (rPk x0 (one x2)) natLt_8_32) (broadcast S6144x768 15#32)) (k0_pay14 (F := Ideal) (k0_pay5 x0 (one x2))))
      (decHalf (shrsi (extui 32 (rPk x0 (one x2)) natLt_8_32) (broadcast S6144x768 4#32)) (k0_pay14 (F := Ideal) (k0_pay5 x0 (one x2)))) := by
  unfold kernelRun0_A.sl.r_17 kernelRun0_A.sl.r_14 kernelRun0_A.sl.r_15 kernelRun0_A.sl.r_16
  rw [sl_s3, sl_n, sl_b, sl_w, lo_eq, both_eq]

/-- The weight's scales, one to a group. -/
abbrev wsc (x4 : Vec Ideal S6144x96 .fp8e4m3) : FVec Ideal S6144x96x1 .bf16 := k0_pay23 (F := Ideal) x4

/-- The weight's even columns. -/
abbrev wlo (x3 : Vec Ideal S6144x768 .i8) (x4 : Vec Ideal S6144x96 .fp8e4m3) : FVec Ideal S6144x768 .bf16 :=
  decHalf (andi (extui 32 x3 natLt_8_32) (broadcast S6144x768 15#32)) (wsc x4)

/-- The weight's odd columns. -/
abbrev whi (x3 : Vec Ideal S6144x768 .i8) (x4 : Vec Ideal S6144x96 .fp8e4m3) : FVec Ideal S6144x768 .bf16 :=
  decHalf (shrsi (extui 32 x3 natLt_8_32) (broadcast S6144x768 4#32)) (wsc x4)

theorem sl_ws : kernelRun0_A.sl.r_18 (F := Ideal) c arg4 harg4 x4 = wsc x4 := by
  unfold kernelRun0_A.sl.r_18
  rw [rd]

theorem sl_wp : kernelRun0_A.sl.r_19 (F := Ideal) c arg3 harg3 x3 = extui 32 x3 natLt_8_32 := by
  unfold kernelRun0_A.sl.r_19
  rw [rd]
  rfl

theorem sl_wl : kernelRun0_A.sl.r_21 (F := Ideal) c arg3 harg3 arg4 harg4 x3 x4 = k0_pay26 (wlo x3 x4) := by
  unfold kernelRun0_A.sl.r_21 kernelRun0_A.sl.r_20
  rw [sl_ws, sl_wp, wlo_eq]

theorem sl_wh : kernelRun0_A.sl.r_22 (F := Ideal) c arg3 harg3 arg4 harg4 x3 x4 = shapeCast S6144x768x1 (whi x3 x4) shapeCasts_S6144x768_S6144x768x1 := by
  unfold kernelRun0_A.sl.r_22
  rw [sl_ws, sl_wp, whi_eq]

end

/-- The decoded weight. -/
theorem w_apply (x3 : Vec Ideal S6144x768 .i8) (x4 : Vec Ideal S6144x96 .fp8e4m3) (r : Fin 6144) (j : Fin 1536) :
    inter (wlo x3 x4) (whi x3 x4) (ix2 r j) = decS (row x3 r) (row x4 r) j := by
  refine dec_apply x3 (wsc x4) (row x3 r) (row x4 r) r (fun b => rfl) (fun q => ?_) j
  unfold wsc k0_pay23
  exact sc_s r _ _ _ _

/-- The codes. -/
theorem codes_R (c : Dev nD) (arg0 : Memref sig .tc .vmem S6144x1536 .bf16) (harg0 : arg0.IsWhole) (arg1 : Memref sig .tc .vmem S1x6144 .f32) (harg1 : arg1.IsWhole) (arg2 : Memref sig .tc .smem S1 .f32) (harg2 : arg2.IsWhole) (arg3 : Memref sig .tc .vmem S6144x768 .i8) (harg3 : arg3.IsWhole) (arg4 : Memref sig .tc .vmem S6144x96 .fp8e4m3) (harg4 : arg4.IsWhole) (arg5 : Memref sig .tc .smem S1 .f32) (harg5 : arg5.IsWhole) (arg6 : Memref sig .tc .vmem S6144x16 .bf16) (harg6 : arg6.IsWhole) (arg7 : Memref sig .tc .vmem S16x1536 .bf16) (harg7 : arg7.IsWhole) (arg8 : Memref sig .tc .vmem S6144x6144 .bf16) (harg8 : arg8.IsWhole) (arg9 : Memref sig .tc .vmem S6144x768 .i8) (harg9 : arg9.IsWhole) (arg10 : Memref sig .tc .vmem S6144x96 .fp8e4m3) (harg10 : arg10.IsWhole)
    (x0 : Vec Ideal S6144x1536 .bf16) (x1 : Vec Ideal S1x6144 .f32) (x2 : Vec Ideal S1 .f32) (x3 : Vec Ideal S6144x768 .i8) (x4 : Vec Ideal S6144x96 .fp8e4m3) (x5 : Vec Ideal S1 .f32) (x6 : Vec Ideal S6144x16 .bf16) (x7 : Vec Ideal S16x1536 .bf16) :
    out0_A_9 (F := Ideal) c arg0 harg0 arg1 harg1 arg2 harg2 arg3 harg3 arg4 harg4 arg5 harg5 arg6 harg6 arg7 harg7 arg8 harg8 arg9 harg9 arg10 harg10 x0 x1 x2 x3 x4 x5 x6 x7 = fun y : S6144x768.Idx => packS (one x2) (row x0 (y 0)) (y 1) := by
  funext y
  unfold out0_A_9
  refine View.read_writes_apply_of_pieces (Val := Elt Ideal) VO0_9 VO0_9.junk (fun y : S6144x768.Idx => packS (one x2) (row x0 (y 0)) (y 1)) _ ?_ y (cover0_A_9 c arg0 harg0 arg1 harg1 arg2 harg2 arg3 harg3 arg4 harg4 arg5 harg5 arg6 harg6 arg7 harg7 arg8 harg8 arg9 harg9 arg10 harg10 x0 x1 x2 x3 x4 x5 x6 x7 y)
  unfold kernelRun0_A
  dsimp only
  intro p hp x
  obtain rfl := List.mem_singleton.mp hp
  dsimp only
  refine Eq.trans ?_ (congrArg (fun y : S6144x768.Idx => packS (one x2) (row x0 (y 0)) (y 1)) (emb_full (s := S6144x768) inb_S6144x768_S6144x768_0_0 x)).symm
  refine (congrFun (sl_p c x0 x2) x).trans ?_
  have hx : (x : S6144x768.Idx) = ix2 (x 0) (x 1) := funext fun a => match a with
    | ⟨0, _⟩ => rfl
    | ⟨1, _⟩ => rfl
  refine (congrArg (rPk x0 (one x2)) hx).trans ?_
  exact pay13_apply x0 (one x2) (x 0) (x 1)

/-- The scales. -/
theorem scales_R (c : Dev nD) (arg0 : Memref sig .tc .vmem S6144x1536 .bf16) (harg0 : arg0.IsWhole) (arg1 : Memref sig .tc .vmem S1x6144 .f32) (harg1 : arg1.IsWhole) (arg2 : Memref sig .tc .smem S1 .f32) (harg2 : arg2.IsWhole) (arg3 : Memref sig .tc .vmem S6144x768 .i8) (harg3 : arg3.IsWhole) (arg4 : Memref sig .tc .vmem S6144x96 .fp8e4m3) (harg4 : arg4.IsWhole) (arg5 : Memref sig .tc .smem S1 .f32) (harg5 : arg5.IsWhole) (arg6 : Memref sig .tc .vmem S6144x16 .bf16) (harg6 : arg6.IsWhole) (arg7 : Memref sig .tc .vmem S16x1536 .bf16) (harg7 : arg7.IsWhole) (arg8 : Memref sig .tc .vmem S6144x6144 .bf16) (harg8 : arg8.IsWhole) (arg9 : Memref sig .tc .vmem S6144x768 .i8) (harg9 : arg9.IsWhole) (arg10 : Memref sig .tc .vmem S6144x96 .fp8e4m3) (harg10 : arg10.IsWhole)
    (x0 : Vec Ideal S6144x1536 .bf16) (x1 : Vec Ideal S1x6144 .f32) (x2 : Vec Ideal S1 .f32) (x3 : Vec Ideal S6144x768 .i8) (x4 : Vec Ideal S6144x96 .fp8e4m3) (x5 : Vec Ideal S1 .f32) (x6 : Vec Ideal S6144x16 .bf16) (x7 : Vec Ideal S16x1536 .bf16) :
    out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 x7 = fun y : S6144x96.Idx => sclS (one x2) (row x0 (y 0)) (y 1) := by
  funext y
  unfold out0_A_10
  refine View.read_writes_apply_of_pieces (Val := Elt Ideal) VO0_10 VO0_10.junk (fun y : S6144x96.Idx => sclS (one x2) (row x0 (y 0)) (y 1)) _ ?_ y (cover0_A_10 c arg0 harg0 arg1 harg1 arg2 harg2 arg3 harg3 arg4 harg4 arg5 harg5 arg6 harg6 arg7 harg7 arg8 harg8 arg9 harg9 arg10 harg10 x0 x1 x2 x3 x4 x5 x6 x7 y)
  unfold kernelRun0_A
  dsimp only
  intro p hp x
  obtain rfl := List.mem_singleton.mp hp
  dsimp only
  refine Eq.trans ?_ (congrArg (fun y : S6144x96.Idx => sclS (one x2) (row x0 (y 0)) (y 1)) (emb_full (s := S6144x96) inb_S6144x96_S6144x96_0_0 x)).symm
  refine (congrFun (sl_s c x0 x2) x).trans ?_
  have hx : (x : S6144x96.Idx) = ix2 (x 0) (x 1) := funext fun a => match a with
    | ⟨0, _⟩ => rfl
    | ⟨1, _⟩ => rfl
  refine (congrArg (k0_pay5 (F := Ideal) x0 (one x2)) hx).trans ?_
  exact pay4_apply x0 (one x2) (x 0) (x 1)

/-- The gradient. -/
theorem dx_R (c : Dev nD) (arg0 : Memref sig .tc .vmem S6144x1536 .bf16) (harg0 : arg0.IsWhole) (arg1 : Memref sig .tc .vmem S1x6144 .f32) (harg1 : arg1.IsWhole) (arg2 : Memref sig .tc .smem S1 .f32) (harg2 : arg2.IsWhole) (arg3 : Memref sig .tc .vmem S6144x768 .i8) (harg3 : arg3.IsWhole) (arg4 : Memref sig .tc .vmem S6144x96 .fp8e4m3) (harg4 : arg4.IsWhole) (arg5 : Memref sig .tc .smem S1 .f32) (harg5 : arg5.IsWhole) (arg6 : Memref sig .tc .vmem S6144x16 .bf16) (harg6 : arg6.IsWhole) (arg7 : Memref sig .tc .vmem S16x1536 .bf16) (harg7 : arg7.IsWhole) (arg8 : Memref sig .tc .vmem S6144x6144 .bf16) (harg8 : arg8.IsWhole) (arg9 : Memref sig .tc .vmem S6144x768 .i8) (harg9 : arg9.IsWhole) (arg10 : Memref sig .tc .vmem S6144x96 .fp8e4m3) (harg10 : arg10.IsWhole)
    (x0 : Vec Ideal S6144x1536 .bf16) (x1 : Vec Ideal S1x6144 .f32) (x2 : Vec Ideal S1 .f32) (x3 : Vec Ideal S6144x768 .i8) (x4 : Vec Ideal S6144x96 .fp8e4m3) (x5 : Vec Ideal S1 .f32) (x6 : Vec Ideal S6144x16 .bf16) (x7 : Vec Ideal S16x1536 .bf16) :
    out0_A_8 (F := Ideal) c arg0 harg0 arg1 harg1 arg2 harg2 arg3 harg3 arg4 harg4 arg5 harg5 arg6 harg6 arg7 harg7 arg8 harg8 arg9 harg9 arg10 harg10 x0 x1 x2 x3 x4 x5 x6 x7 = fun y : S6144x6144.Idx => dxOf (J := Fin 1536) (deqS (one x2) (row x0 (y 0))) (decS (row x3 (y 1)) (row x4 (y 1))) (one x2 * one x5) (row x0 (y 0)) (row x7) (row x6 (y 1)) (row x1 (0 : Fin 1) (y 1)) := by
  funext y
  unfold out0_A_8
  refine View.read_writes_apply_of_pieces (Val := Elt Ideal) VO0_8 VO0_8.junk (fun y : S6144x6144.Idx => dxOf (J := Fin 1536) (deqS (one x2) (row x0 (y 0))) (decS (row x3 (y 1)) (row x4 (y 1))) (one x2 * one x5) (row x0 (y 0)) (row x7) (row x6 (y 1)) (row x1 (0 : Fin 1) (y 1))) _ ?_ y (cover0_A_8 c arg0 harg0 arg1 harg1 arg2 harg2 arg3 harg3 arg4 harg4 arg5 harg5 arg6 harg6 arg7 harg7 arg8 harg8 arg9 harg9 arg10 harg10 x0 x1 x2 x3 x4 x5 x6 x7 y)
  unfold kernelRun0_A
  dsimp only
  intro p hp x
  obtain rfl := List.mem_singleton.mp hp
  dsimp only
  refine Eq.trans ?_ (congrArg (fun y : S6144x6144.Idx => dxOf (J := Fin 1536) (deqS (one x2) (row x0 (y 0))) (decS (row x3 (y 1)) (row x4 (y 1))) (one x2 * one x5) (row x0 (y 0)) (row x7) (row x6 (y 1)) (row x1 (0 : Fin 1) (y 1))) (emb_full (s := S6144x6144) inb_S6144x6144_S6144x6144_0_0 x)).symm
  rw [sl_x, sl_g, sl_wl, sl_wh, sl_gw]
  have e7 := rd arg7 harg7 x7 inb_S16x1536_S16x1536_0_0
  have e6 := rd arg6 harg6 x6 inb_S6144x16_S6144x16_0_0
  have e1 := rd arg1 harg1 x1 inb_S1x6144_S1x6144_0_0
  have hx : (x : S6144x6144.Idx) = ix2 (x 0) (x 1) := funext fun a => match a with
    | ⟨0, _⟩ => rfl
    | ⟨1, _⟩ => rfl
  refine (congrFun (congrArg₂ (fun u v => k0_pay1 (F := Ideal) x0 (one x2) _ _ _ u v _ _) e7 e6) x).trans ?_
  refine (congrFun (congrArg (fun u => k0_pay1 (F := Ideal) x0 (one x2) _ _ _ x7 x6 _ u) e1) x).trans ?_
  rw [pay1_eq, sl_d]
  refine (congrArg (dxR _ _ _ _ _ _ _ _) hx).trans ?_
  refine (dxR_apply _ _ _ _ _ _ _ _ _ _).trans ?_
  exact dxOf_congr (funext fun j => deq_apply x0 (one x2) (x 0) j) (funext fun j => w_apply x3 x4 (x 1) j) rfl rfl rfl rfl rfl

/-! ## The final arrays -/

variable (m : (ℓ : Loc nD τ sig) → Buf (Elt Ideal) ℓ)

/-- The gradient's rows. -/
abbrev rY (c : Dev nD) : Vec Ideal S6144x1536 .bf16 := V m c main_v0
/-- The smoothing factors. -/
abbrev rM (c : Dev nD) : Vec Ideal S1x6144 .f32 := V m c main_v1
/-- The global scale of the gradient. -/
abbrev rG (c : Dev nD) : Vec Ideal S1 .f32 := V m c main_v2
/-- The packed weight. -/
abbrev rP (c : Dev nD) : Vec Ideal S6144x768 .i8 := V m c main_arg3
/-- The weight's scales. -/
abbrev rS (c : Dev nD) : Vec Ideal S6144x96 .fp8e4m3 := V m c main_arg4
/-- The global scale of the weight. -/
abbrev rW (c : Dev nD) : Vec Ideal S1 .f32 := V m c main_v3
/-- The first low-rank factor. -/
abbrev rD (c : Dev nD) : Vec Ideal S6144x16 .bf16 := V m c main_arg6
/-- The second low-rank factor. -/
abbrev rU (c : Dev nD) : Vec Ideal S16x1536 .bf16 := V m c main_arg7

theorem idx0 : ∀ t : Fin cfg0.N, win0_0.index t = ![0, 0] :=
  (by decide +kernel : ∀ t : Fin grid0.N, win0_0.index t = ![0, 0])

theorem idx1 : ∀ t : Fin cfg0.N, win0_1.index t = ![0, 0] :=
  (by decide +kernel : ∀ t : Fin grid0.N, win0_1.index t = ![0, 0])

theorem idx2 : ∀ t : Fin cfg0.N, win0_2.index t = ![0] :=
  (by decide +kernel : ∀ t : Fin grid0.N, win0_2.index t = ![0])

theorem idx3 : ∀ t : Fin cfg0.N, win0_3.index t = ![0, 0] :=
  (by decide +kernel : ∀ t : Fin grid0.N, win0_3.index t = ![0, 0])

theorem idx4 : ∀ t : Fin cfg0.N, win0_4.index t = ![0, 0] :=
  (by decide +kernel : ∀ t : Fin grid0.N, win0_4.index t = ![0, 0])

theorem idx5 : ∀ t : Fin cfg0.N, win0_5.index t = ![0] :=
  (by decide +kernel : ∀ t : Fin grid0.N, win0_5.index t = ![0])

theorem idx6 : ∀ t : Fin cfg0.N, win0_6.index t = ![0, 0] :=
  (by decide +kernel : ∀ t : Fin grid0.N, win0_6.index t = ![0, 0])

theorem idx7 : ∀ t : Fin cfg0.N, win0_7.index t = ![0, 0] :=
  (by decide +kernel : ∀ t : Fin grid0.N, win0_7.index t = ![0, 0])

theorem idx8 : ∀ t : Fin cfg0.N, win0_8.index t = ![0, 0] :=
  (by decide +kernel : ∀ t : Fin grid0.N, win0_8.index t = ![0, 0])

theorem idx9 : ∀ t : Fin cfg0.N, win0_9.index t = ![0, 0] :=
  (by decide +kernel : ∀ t : Fin grid0.N, win0_9.index t = ![0, 0])

theorem idx10 : ∀ t : Fin cfg0.N, win0_10.index t = ![0, 0] :=
  (by decide +kernel : ∀ t : Fin grid0.N, win0_10.index t = ![0, 0])

theorem iblk0 (c : Dev nD) (t : Fin cfg0.N) : iblk m c 0 t = rY m c := by
  funext y
  blk_ext [iblk, idx0 t]

theorem iblk1 (c : Dev nD) (t : Fin cfg0.N) : iblk m c 1 t = rM m c := by
  funext y
  blk_ext [iblk, idx1 t]

theorem iblk2 (c : Dev nD) (t : Fin cfg0.N) : iblk m c 2 t = rG m c := by
  funext y
  blk_ext [iblk, idx2 t]

theorem iblk3 (c : Dev nD) (t : Fin cfg0.N) : iblk m c 3 t = rP m c := by
  funext y
  blk_ext [iblk, idx3 t]

theorem iblk4 (c : Dev nD) (t : Fin cfg0.N) : iblk m c 4 t = rS m c := by
  funext y
  blk_ext [iblk, idx4 t]

theorem iblk5 (c : Dev nD) (t : Fin cfg0.N) : iblk m c 5 t = rW m c := by
  funext y
  blk_ext [iblk, idx5 t]

theorem iblk6 (c : Dev nD) (t : Fin cfg0.N) : iblk m c 6 t = rD m c := by
  funext y
  blk_ext [iblk, idx6 t]

theorem iblk7 (c : Dev nD) (t : Fin cfg0.N) : iblk m c 7 t = rU m c := by
  funext y
  blk_ext [iblk, idx7 t]

/-- The codes. -/
theorem codes_arr (c : Dev nD) : (dats m 0 c).arrAt 9 cfg0.N = fun y : S6144x768.Idx => packS (one (rG m c)) (row (rY m c) (y 0)) (y 1) := by
  refine (dats m 0 c).arrAt_eq_of_covers 9 _ (by decide +kernel) fun t hf y => ?_
  rw [after0_9]
  unfold outsAt0
  dsimp only
  rw [codes_R, iblk0, iblk2]
  have h0 : ((((cfg0.win 9).blk t).view.emb y : S6144x768.Idx) 0).val = (y 0).val := by blk_simp [idx9 t]
  have h1 : ((((cfg0.win 9).blk t).view.emb y : S6144x768.Idx) 1).val = (y 1).val := by blk_simp [idx9 t]
  refine congrArg (fun y : S6144x768.Idx => packS (one (rG m c)) (row (rY m c) (y 0)) (y 1)) (funext fun a => Fin.ext ?_)
  match a with
  | ⟨0, _⟩ => exact h0.symm
  | ⟨1, _⟩ => exact h1.symm

/-- The scales. -/
theorem scales_arr (c : Dev nD) : (dats m 0 c).arrAt 10 cfg0.N = fun y : S6144x96.Idx => sclS (one (rG m c)) (row (rY m c) (y 0)) (y 1) := by
  refine (dats m 0 c).arrAt_eq_of_covers 10 _ (by decide +kernel) fun t hf y => ?_
  rw [after0_10]
  unfold outsAt0
  dsimp only
  rw [scales_R, iblk0, iblk2]
  have h0 : ((((cfg0.win 10).blk t).view.emb y : S6144x96.Idx) 0).val = (y 0).val := by blk_simp [idx10 t]
  have h1 : ((((cfg0.win 10).blk t).view.emb y : S6144x96.Idx) 1).val = (y 1).val := by blk_simp [idx10 t]
  refine congrArg (fun y : S6144x96.Idx => sclS (one (rG m c)) (row (rY m c) (y 0)) (y 1)) (funext fun a => Fin.ext ?_)
  match a with
  | ⟨0, _⟩ => exact h0.symm
  | ⟨1, _⟩ => exact h1.symm

/-- The gradient. -/
theorem dx_arr (c : Dev nD) : (dats m 0 c).arrAt 8 cfg0.N = fun y : S6144x6144.Idx => dxOf (J := Fin 1536) (deqS (one (rG m c)) (row (rY m c) (y 0))) (decS (row (rP m c) (y 1)) (row (rS m c) (y 1))) (one (rG m c) * one (rW m c)) (row (rY m c) (y 0)) (row (rU m c)) (row (rD m c) (y 1)) (row (rM m c) (0 : Fin 1) (y 1)) := by
  refine (dats m 0 c).arrAt_eq_of_covers 8 _ (by decide +kernel) fun t hf y => ?_
  rw [after0_8]
  unfold outsAt0
  dsimp only
  rw [dx_R, iblk0, iblk1, iblk2, iblk3, iblk4, iblk5, iblk6, iblk7]
  have h0 : ((((cfg0.win 8).blk t).view.emb y : S6144x6144.Idx) 0).val = (y 0).val := by blk_simp [idx8 t]
  have h1 : ((((cfg0.win 8).blk t).view.emb y : S6144x6144.Idx) 1).val = (y 1).val := by blk_simp [idx8 t]
  refine congrArg (fun y : S6144x6144.Idx => dxOf (J := Fin 1536) (deqS (one (rG m c)) (row (rY m c) (y 0))) (decS (row (rP m c) (y 1)) (row (rS m c) (y 1))) (one (rG m c) * one (rW m c)) (row (rY m c) (y 0)) (row (rU m c)) (row (rD m c) (y 1)) (row (rM m c) (0 : Fin 1) (y 1))) (funext fun a => Fin.ext ?_)
  match a with
  | ⟨0, _⟩ => exact h0.symm
  | ⟨1, _⟩ => exact h1.symm

end Cert.ReferenceIdeal.Value

end
-- ==== Proof.Tie.lean ====
module

public import proofs.«01_k».proof.Proof.Arrays
public import proofs.«01_k».proof.Proof.RefArrays
public import proofs.«01_k».proof.Proof.Gen.Pre_global_scale_nonzero
public import proofs.«01_k».proof.Defs

@[expose] public section

set_option maxRecDepth 16384

/-! # The kernel's arrays are the reference's

Both programs read the same arguments: the kernel through one transpose more. -/

noncomputable section

namespace Cert.Tie

open Idealize.ShloMosaic hiding ix0 ix1 ix2 ix3
open Idealize.ShloMosaic.TcCoe Idealize.ShloMosaic.ValueIdx
open Cert.KernelIdeal.Value (aG aW aY aM aP aS aD aU)
open Cert.ReferenceIdeal.Value (rG rW rY rM rP rS rD rU)
open Cert.KernelIdeal.Gen (one row)
open Cert.KernelIdeal.Gen.Slab (dxOf dxOf_congr)
open Nvfp4

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem tG (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    rG m' c = aG m c := by
  show Cert.ReferenceIdeal.Gen.V m' c Cert.ReferenceIdeal.main_v2 = Cert.KernelIdeal.Gen.V m c Cert.KernelIdeal.main_v0
  entry_read
  rw [h]
  rfl

theorem tW (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    rW m' c = aW m c := by
  show Cert.ReferenceIdeal.Gen.V m' c Cert.ReferenceIdeal.main_v3 = Cert.KernelIdeal.Gen.V m c Cert.KernelIdeal.main_v1
  entry_read
  rw [h]
  rfl

theorem tY (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    rY m' c = aY m c := by
  show Cert.ReferenceIdeal.Gen.V m' c Cert.ReferenceIdeal.main_v0 = Cert.KernelIdeal.Gen.V m c Cert.KernelIdeal.main_v2
  entry_read
  rw [h]
  rfl

theorem tM (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    rM m' c = aM m c := by
  show Cert.ReferenceIdeal.Gen.V m' c Cert.ReferenceIdeal.main_v1 = Cert.KernelIdeal.Gen.V m c Cert.KernelIdeal.main_v3
  entry_read
  rw [h]
  rfl

theorem tP (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    rP m' c = aP m c :=
  (Cert.ReferenceIdeal.Gen.V_main_arg3 m' c).trans (h.trans (Cert.KernelIdeal.Gen.V_main_arg3 m c).symm)

theorem tS (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    rS m' c = aS m c :=
  (Cert.ReferenceIdeal.Gen.V_main_arg4 m' c).trans (h.trans (Cert.KernelIdeal.Gen.V_main_arg4 m c).symm)

theorem tU (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    rU m' c = aU m c :=
  (Cert.ReferenceIdeal.Gen.V_main_arg7 m' c).trans (h.trans (Cert.KernelIdeal.Gen.V_main_arg7 m c).symm)

/-- The first low-rank factor, which the kernel holds transposed. -/
theorem tD (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (j : Fin 6144) :
    row (rD m' c) j = fun r => row (aD m c) r j := by
  have e : aD m c = transpose Cert.KernelIdeal.S16x6144 [1, 0] (m ((c.tc : Thread Cert.KernelIdeal.nD Cert.KernelIdeal.τ).loc Cert.KernelIdeal.main_arg6)) Cert.KernelIdeal.Facts₀.transposes_S6144x16_S16x6144_1_0 := by
    show Cert.KernelIdeal.Gen.V m c Cert.KernelIdeal.main_v4 = _
    entry_read
    rfl
  funext r
  rw [e]
  refine (congrFun ((Cert.ReferenceIdeal.Gen.V_main_arg6 m' c).trans h) (ix2 j r)).trans ?_
  refine congrArg (m ((c.tc : Thread Cert.KernelIdeal.nD Cert.KernelIdeal.τ).loc Cert.KernelIdeal.main_arg6)) (funext fun a => match a with
    | ⟨0, _⟩ => rfl
    | ⟨1, _⟩ => rfl)

/-- The precondition: the gradient's global scale is not zero. -/
theorem g_ne (h : Cert.Pre_KernelIdeal_global_scale_nonzero m) : one (aG m c) ≠ 0 := by
  have e : aG m c = shapeCast Cert.KernelIdeal.S1 (m ((c.tc : Thread Cert.KernelIdeal.nD Cert.KernelIdeal.τ).loc Cert.KernelIdeal.main_arg2)) Cert.KernelIdeal.Facts₀.shapeCasts_S_S1 := by
    show Cert.KernelIdeal.Gen.V m c Cert.KernelIdeal.main_v0 = _
    entry_read
    rfl
  intro h0
  rw [e] at h0
  have hz (x : Vec Ideal Cert.KernelIdeal.S_ .f32) (i : Cert.KernelIdeal.S_.Idx) (hx : x i = 0)
      (hc : (fun i => Ideal.cmp .une (x i) (c32 0x00000000#32)) = fun _ : Cert.KernelIdeal.S_.Idx => 1#1) : False := by
    have h1 := congrFun hc i
    rw [hx, c_zero] at h1
    simp [Ideal.cmp] at h1
  exact hz _ _ h0 (h c)

/-! ## The results -/

section
variable (hpre : Cert.Pre_KernelIdeal_global_scale_nonzero m)
  (ha : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
include hpre ha

/-- The gradient. -/
theorem dx_eq : (Cert.ReferenceIdeal.Gen.dats m' 0 c).arrAt 8 Cert.ReferenceIdeal.cfg0.N = Cert.KernelIdeal.Value.G8 m c := by
  obtain ⟨h0, h1, h2, h3, h4, h5, h6, h7⟩ := ha c
  refine (Cert.ReferenceIdeal.Value.dx_arr m' c).trans ?_
  funext i
  rw [tG m m' c h2, tW m m' c h5, tY m m' c h0, tM m m' c h1, tP m m' c h3, tS m m' c h4, tU m m' c h7]
  refine (dxOf_congr rfl rfl rfl rfl rfl (tD m m' c h6 (i 1)) rfl).trans ?_
  exact (Cert.KernelIdeal.Value.G8_apply m c i (g_ne m c hpre)).symm

/-- The codes. -/
theorem codes_eq : (Cert.ReferenceIdeal.Gen.dats m' 0 c).arrAt 9 Cert.ReferenceIdeal.cfg0.N = Cert.KernelIdeal.Value.G9 m c := by
  obtain ⟨h0, h1, h2, h3, h4, h5, h6, h7⟩ := ha c
  refine (Cert.ReferenceIdeal.Value.codes_arr m' c).trans ?_
  funext i
  rw [tG m m' c h2, tY m m' c h0]
  exact (Cert.KernelIdeal.Value.G9_apply m c i (g_ne m c hpre)).symm

/-- The scales. -/
theorem scales_eq : (Cert.ReferenceIdeal.Gen.dats m' 0 c).arrAt 10 Cert.ReferenceIdeal.cfg0.N = Cert.KernelIdeal.Value.G10 m c := by
  obtain ⟨h0, h1, h2, h3, h4, h5, h6, h7⟩ := ha c
  refine (Cert.ReferenceIdeal.Value.scales_arr m' c).trans ?_
  funext i
  rw [tG m m' c h2, tY m m' c h0]
  exact (Cert.KernelIdeal.Value.G10_apply m c i).symm

end

end Cert.Tie

end
-- ==== Proof.KernelFrame.Rebase.lean ====
module

public import proofs.«01_k».proof.Proof.Gen.Kernel.Frame.Runs

@[expose] public section

set_option maxRecDepth 16384

/-! # The scratch after the loops that fill it

The first loop stores the whole decoded weight and the second the whole quantised block, so what the two buffers hold
afterwards does not depend on what they held before. -/

noncomputable section

namespace Cert.Kernel.Gen

open Idealize.ShloMosaic Idealize.ShloMosaic.TcCoe Idealize.ShloMosaic.Tactic
open Idealize.SL Idealize.SL.RA Idealize.SL.BI

variable {F : FTy → Type} [FloatOps F]

variable (𝒱 : Variants)
  (c : Dev nD)
  (bd : Option 𝒱.V)
  (i : grid0.Coords)
  (arg1 : Memref sig .tc .smem S1 .f32)
  (harg1 : arg1.IsWhole)
  (arg2 : Memref sig .tc .smem S1 .f32)
  (harg2 : arg2.IsWhole)
  (arg3 : Memref sig .tc .vmem S256x1536 .bf16)
  (harg3 : arg3.IsWhole)
  (arg4 : Memref sig .tc .vmem S1x6144 .f32)
  (harg4 : arg4.IsWhole)
  (arg5 : Memref sig .tc .vmem S6144x768 .i8)
  (harg5 : arg5.IsWhole)
  (arg6 : Memref sig .tc .vmem S6144x96 .fp8e4m3)
  (harg6 : arg6.IsWhole)
  (arg7 : Memref sig .tc .vmem S16x6144 .bf16)
  (harg7 : arg7.IsWhole)
  (arg8 : Memref sig .tc .vmem S16x1536 .bf16)
  (harg8 : arg8.IsWhole)
  (arg9 : Memref sig .tc .vmem S256x6144 .bf16)
  (harg9 : arg9.IsWhole)
  (arg10 : Memref sig .tc .vmem S256x768 .i8)
  (harg10 : arg10.IsWhole)
  (arg11 : Memref sig .tc .vmem S256x96 .fp8e4m3)
  (harg11 : arg11.IsWhole)
  (arg12 : Memref sig .tc .vmem S6144x1536 .bf16)
  (harg12 : arg12.IsWhole)
  (arg13 : Memref sig .tc .vmem S256x1536 .bf16)
  (harg13 : arg13.IsWhole)
  (arg14 : Memref sig .tc .vmem S32x128 .fp8e4m3)
  (harg14 : arg14.IsWhole)

/-- A buffer held whole, once its pieces cover it, is as if they had been written over any other contents. -/
theorem writes_rebase {sp : Space} {s : Shape} {e : EltTy} (M : Memref sig .tc sp s e) (h : M.IsWhole)
    (f f' : BufTy.Contents (Elt F) M.view.ty) (L : List (View.Piece (Elt F) s e)) (hL : ∀ y : s.Idx, ∃ p ∈ L, y ∈ p.1.set) :
    M.view.writes (Elt F) f L = M.view.writes (Elt F) f' L :=
  (h.eq_unread (View.read_writes_of_cover M.view f M.view f' L hL)).trans (h.eq_unread rfl).symm

section Decode

variable (k0_h1 : k0_cond1 i = 1#1) (X_arg5 : BufTy.Contents (Elt F) arg5.view.ty) (X_arg6 : BufTy.Contents (Elt F) arg6.view.ty)

/-- A trip of the decoding loop stores the same pieces whatever the decoded weight held. -/
theorem trip_t1_free (k : Fin k0_t1_loop.trips) (f f' : BufTy.Contents (Elt F) arg12.view.ty)
    (g : BufTy.Contents (Elt F) arg14.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 k f g = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 k f' g := by
  unfold tripL_k0_t1 trip_k0_t1
  rfl

/-- So do all of them. -/
theorem pb_t1_free (f f' : BufTy.Contents (Elt F) arg12.view.ty) (g : BufTy.Contents (Elt F) arg14.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f' g n := by
  induction n with
  | zero => rfl
  | succ n ih =>
    rw [pb_k0_t1.eq_2, pb_k0_t1.eq_2, ih]
    unfold pb_k0_t1Step
    split
    · rw [trip_t1_free 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 _ _ (arg12.view.writes (Elt F) f' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f' g n).1)]
    · rfl

/-- The decoding loop's pieces cover the decoded weight. -/
theorem cover_t1 (f : BufTy.Contents (Elt F) arg12.view.ty) (g : BufTy.Contents (Elt F) arg14.view.ty) (y : S6144x1536.Idx) :
    ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g k0_t1_loop.trips).1, y ∈ p.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g k0_t1_loop.trips).1 S32x128.size (by sl_kernel_rfl) y

/-- The decoded weight after the loop, over any contents. -/
theorem rebase_t1 (f : BufTy.Contents (Elt F) arg12.view.ty) (g : BufTy.Contents (Elt F) arg14.view.ty) :
    arg12.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f g k0_t1_loop.trips).1
      = arg12.view.writes (Elt F) arg12.view.junk (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 arg12.view.junk g k0_t1_loop.trips).1 := by
  rw [pb_t1_free 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 f arg12.view.junk]
  exact writes_rebase arg12 harg12 _ _ _ (cover_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg5 X_arg6 _ _)

end Decode

section Quantise

variable (v0 : Elt F .f32) (X_arg3 : BufTy.Contents (Elt F) arg3.view.ty)

/-- The quantising loop's pieces cover the quantised block. -/
theorem cover_t2 (y : S256x1536.Idx) :
    ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2, y ∈ p.1.set :=
  View.cover_of_tiledL (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2 S32x128.size (by sl_kernel_rfl) y

/-- The quantised block after the loop, over any contents. -/
theorem rebase_t2 (f : BufTy.Contents (Elt F) arg13.view.ty) :
    arg13.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2
      = arg13.view.writes (Elt F) arg13.view.junk (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3 k0_t2_loop.trips).2.2 :=
  writes_rebase arg13 harg13 _ _ _ (cover_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X_arg3)

end Quantise

end Cert.Kernel.Gen

end
-- ==== Proof.KernelFrame.RunA.lean ====
module

public import proofs.«01_k».proof.Proof.KernelFrame.Rebase

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref (and in the carried scratch), as pieces, last first, with
    the proof that the body runs to a continuation holding them. The two scratch buffers that loops fill are restated over no
    particular contents before the pieces are named. -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) :
    { LS0 : List (View.Piece (Elt F) S6144x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d)) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_nvfp4_dgrad_eq_skeleton]; unfold cc0_nvfp4_dgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    rw [rebase_t1, rebase_t2]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Gen

end
-- ==== Proof.KernelFrame.RunB.lean ====
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref (and in the carried scratch), as pieces, last first, with
    the proof that the body runs to a continuation holding them. The two scratch buffers that loops fill are restated over no
    particular contents before the pieces are named. -/
noncomputable def kernelRun0_B (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) :
    { LS0 : List (View.Piece (Elt F) S6144x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], fun E K => ?run⟩
  case run =>
    simp only [cc0_nvfp4_dgrad_eq_skeleton]; unfold cc0_nvfp4_dgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0)
    rw [rebase_t2]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _; isplitr; · ipureintro; exact harg12.read_unread _
      iexact HS0
    isplitl [HS1]
    · iexists _, _; isplitr; swap; · iexact HS1
      ipureintro; rfl
    iexists _, _; isplitr; swap; · iexact HS2
    ipureintro; rfl

end Cert.Kernel.Gen

end
-- ==== Proof.KernelFrame.Frame.lean ====
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 2304 pieces of `S32x128` tiling it (Lib/Ring.lean `Piece.tiledL`). -/
theorem scover0_A_0 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (y : S6144x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S32x128.size (by sl_kernel_rfl) y

/-- What case A leaves in scratch `arg12`: its pieces read back over junk. -/
def sout0_A_0 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) : Vec F S6144x1536 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- Case B stores nothing into scratch `arg12`: it holds what the point before left. -/
def sout0_B_0 (c : Dev nD) (i : grid0.Coords) (arg1 : Memref sig .tc .smem S1 .f32) (harg1 : arg1.IsWhole) (arg2 : Memref sig .tc .smem S1 .f32) (harg2 : arg2.IsWhole) (arg3 : Memref sig .tc .vmem S256x1536 .bf16) (harg3 : arg3.IsWhole) (arg4 : Memref sig .tc .vmem S1x6144 .f32) (harg4 : arg4.IsWhole) (arg5 : Memref sig .tc .vmem S6144x768 .i8) (harg5 : arg5.IsWhole) (arg6 : Memref sig .tc .vmem S6144x96 .fp8e4m3) (harg6 : arg6.IsWhole) (arg7 : Memref sig .tc .vmem S16x6144 .bf16) (harg7 : arg7.IsWhole) (arg8 : Memref sig .tc .vmem S16x1536 .bf16) (harg8 : arg8.IsWhole) (arg9 : Memref sig .tc .vmem S256x6144 .bf16) (harg9 : arg9.IsWhole) (arg10 : Memref sig .tc .vmem S256x768 .i8) (harg10 : arg10.IsWhole) (arg11 : Memref sig .tc .vmem S256x96 .fp8e4m3) (harg11 : arg11.IsWhole) (arg12 : Memref sig .tc .vmem S6144x1536 .bf16) (harg12 : arg12.IsWhole) (arg13 : Memref sig .tc .vmem S256x1536 .bf16) (harg13 : arg13.IsWhole) (arg14 : Memref sig .tc .vmem S32x128 .fp8e4m3) (harg14 : arg14.IsWhole) (hc0 : ¬cond0_0 i)
    (x0 : Vec F S1 .f32) (x1 : Vec F S1 .f32) (x2 : Vec F S256x1536 .bf16) (x3 : Vec F S1x6144 .f32) (x4 : Vec F S6144x768 .i8) (x5 : Vec F S6144x96 .fp8e4m3) (x6 : Vec F S16x6144 .bf16) (x7 : Vec F S16x1536 .bf16) (xs0 : Vec F S6144x1536 .bf16) : Vec F S6144x1536 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S6144x1536 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 24 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- `outsAt0` at a point of case A: that case's contents. -/
theorem outsAt0_A (c : Dev nD) (t : Fin cfg0.N) (h0 : t.val % 24 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 24 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 24 := lt_of_lt_of_eq t.isLt (show cfg0.N = 24 from N_0)
  by_cases h0 : t.val % 24 = 0
  · by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, H6, H7, H8, H9, H10, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; have hN : t.val < 24 := lt_of_lt_of_eq t.isLt (show cfg0.N = 24 from N_0); omega
  · by_cases hz : t.val = 0
    · exfalso; have hN : t.val < 24 := lt_of_lt_of_eq t.isLt (show cfg0.N = 24 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((Pipeline.Dat.toRForget_arrAt_iff (dats m 0 c) rfl _ _).1 ((h c).1 4)).trans (((dats m 0 c).arrAt_in 4 rfl _).trans ((A_eq m c 4).trans (V_main_arg3 m c))),
      ((Pipeline.Dat.toRForget_arrAt_iff (dats m 0 c) rfl _ _).1 ((h c).1 5)).trans (((dats m 0 c).arrAt_in 5 rfl _).trans ((A_eq m c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((Pipeline.Dat.toRForget_arrAt_iff (dats m 0 c) rfl _ _).1 ((h c).1 7)).trans (((dats m 0 c).arrAt_in 7 rfl _).trans ((A_eq m c 7).trans (V_main_arg7 m c)))⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.lean ====
module

public import proofs.«01_k».proof.Proof.Gen.ReferenceIdeal.Value
public import proofs.«01_k».proof.Proof.Gen.Pre_global_scale_nonzero
public import proofs.«01_k».proof.Defs
public import proofs.«01_k».proof.Proof.Tie
public import proofs.«01_k».proof.Proof.Gen.Kernel
public import proofs.«01_k».proof.Proof.KernelFrame.Frame
public import proofs.«01_k».proof.Proof.Gen.KernelIdeal
public import proofs.«01_k».proof.Proof.KernelIdealFrame.Value
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- From equal arguments, the gradient's global scale not zero, the kernel and the reference leave equal results. -/
theorem algebraic : Cert.algebraic_KernelIdeal_ReferenceIdeal_pre_global_scale_nonzero := fun m g m' g' hpre ha =>
  ⟨fun c => Cert.KernelIdeal.Value.G8 m c, fun c => Cert.KernelIdeal.Value.G9 m c, fun c => Cert.KernelIdeal.Value.G10 m c,
    Cert.KernelIdeal.Value.run m g,
    (θ_run Cert.ReferenceIdeal.defs _ _).mono (fun r h c =>
      ⟨(h c).1.trans (Cert.Tie.dx_eq m m' c hpre ha), (h c).2.1.trans (Cert.Tie.codes_eq m m' c hpre ha),
        (h c).2.2.1.trans (Cert.Tie.scales_eq m m' c hpre ha), (h c).2.2.2⟩) (Cert.ReferenceIdeal.Value.run_blocks m' g')⟩

theorem claim : Cert.Claim := ⟨Cert.Kernel.Gen.facts, Cert.KernelIdeal.Gen.facts, Cert.ReferenceIdeal.Gen.facts, Cert.Pre_global_scale_nonzero.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
